-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def preserves_Kernel_KernelIdeal : Prop :=
  IdealRules.named_const.Statement Cert.KernelIdeal.κ "inv_scale" .f32 0x413504F3#32 (((11863283 / 134217728)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
-- ==== Pre_finite.lean ====
abbrev S16896x12288 : Shape := ⟨2, ![16896, 12288]⟩
abbrev S16896x128 : Shape := ⟨2, ![16896, 128]⟩
abbrev S2x8 : Shape := ⟨2, ![2, 8]⟩
abbrev S2x2048 : Shape := ⟨2, ![2, 2048]⟩
abbrev S8x8x256x128 : Shape := ⟨4, ![8, 8, 256, 128]⟩
abbrev S8x8x128 : Shape := ⟨3, ![8, 8, 128]⟩
abbrev S8x8 : Shape := ⟨2, ![8, 8]⟩
abbrev S_ : Shape := ⟨0, ![]⟩

class Facts : Prop where
  bitsLt_bf16_f32 : FTy.bits .bf16 < FTy.bits .f32
  bcast_S_S16896x12288 : S_.BroadcastsInDim S16896x12288 (![] : Fin 0 → Fin S16896x12288.rank)
  reducesTo_S16896x12288_S_d0_1 : S16896x12288.ReducesTo [0, 1] S_
  h_S_ : 0 < S_.numel
  bcast_S_S16896x128 : S_.BroadcastsInDim S16896x128 (![] : Fin 0 → Fin S16896x128.rank)
  reducesTo_S16896x128_S_d0_1 : S16896x128.ReducesTo [0, 1] S_
  bcast_S_S2x8 : S_.BroadcastsInDim S2x8 (![] : Fin 0 → Fin S2x8.rank)
  reducesTo_S2x8_S_d0_1 : S2x8.ReducesTo [0, 1] S_
  bcast_S_S8x8x256x128 : S_.BroadcastsInDim S8x8x256x128 (![] : Fin 0 → Fin S8x8x256x128.rank)
  reducesTo_S8x8x256x128_S_d0_1_2_3 : S8x8x256x128.ReducesTo [0, 1, 2, 3] S_
  bcast_S_S8x8x128 : S_.BroadcastsInDim S8x8x128 (![] : Fin 0 → Fin S8x8x128.rank)
  reducesTo_S8x8x128_S_d0_1_2 : S8x8x128.ReducesTo [0, 1, 2] S_
  bcast_S_S8x8 : S_.BroadcastsInDim S8x8 (![] : Fin 0 → Fin S8x8.rank)
  reducesTo_S8x8_S_d0_1 : S8x8.ReducesTo [0, 1] S_

variable [Facts]

def fn_part2 {F : FTy → Type} [FloatOps F] (main_v30 : IVec S_ 1) (main_v33 : IVec S8x8 1) (main_c_11 : IVec S_ 1) : IVec S_ 1 :=
  let main_v34 : IVec S_ 1 := (fun x v => Host.reduce IntOp.andi x v reducesTo_S8x8_S_d0_1 h_S_) main_v33 main_c_11
  let main_v35 : IVec S_ 1 := andi main_v30 main_v34
  main_v35

def fn_part1 {F : FTy → Type} [FloatOps F] (main_arg5 : FVec F S8x8x256x128 .f32) (main_arg6 : FVec F S8x8x128 .f32) (main_arg7 : FVec F S8x8 .f32) (main_v15 : IVec S_ 1) (main_v16 : FVec F S2x8 .f32) (main_cst_4 : FVec F S_ .f32) : IVec S_ 1 :=
  let main_v17 : FVec F S2x8 .f32 := broadcastInDim S2x8 ![] bcast_S_S2x8 main_cst_4
  let main_v18 : IVec S2x8 1 := cmpf .oeq main_v16 main_v17
  let main_c_5 : IVec S_ 1 := constantI S_ 1 1#1
  let main_v19 : IVec S_ 1 := (fun x v => Host.reduce IntOp.andi x v reducesTo_S2x8_S_d0_1 h_S_) main_v18 main_c_5
  let main_v20 : IVec S_ 1 := andi main_v15 main_v19
  let main_v21 : FVec F S8x8x256x128 .f32 := subf main_arg5 main_arg5
  let main_cst_6 : FVec F S_ .f32 := constant S_ .f32 0x00000000#32
  let main_v22 : FVec F S8x8x256x128 .f32 := broadcastInDim S8x8x256x128 ![] bcast_S_S8x8x256x128 main_cst_6
  let main_v23 : IVec S8x8x256x128 1 := cmpf .oeq main_v21 main_v22
  let main_c_7 : IVec S_ 1 := constantI S_ 1 1#1
  let main_v24 : IVec S_ 1 := (fun x v => Host.reduce IntOp.andi x v reducesTo_S8x8x256x128_S_d0_1_2_3 h_S_) main_v23 main_c_7
  let main_v25 : IVec S_ 1 := andi main_v20 main_v24
  let main_v26 : FVec F S8x8x128 .f32 := subf main_arg6 main_arg6
  let main_cst_8 : FVec F S_ .f32 := constant S_ .f32 0x00000000#32
  let main_v27 : FVec F S8x8x128 .f32 := broadcastInDim S8x8x128 ![] bcast_S_S8x8x128 main_cst_8
  let main_v28 : IVec S8x8x128 1 := cmpf .oeq main_v26 main_v27
  let main_c_9 : IVec S_ 1 := constantI S_ 1 1#1
  let main_v29 : IVec S_ 1 := (fun x v => Host.reduce IntOp.andi x v reducesTo_S8x8x128_S_d0_1_2 h_S_) main_v28 main_c_9
  let main_v30 : IVec S_ 1 := andi main_v25 main_v29
  let main_v31 : FVec F S8x8 .f32 := subf main_arg7 main_arg7
  let main_cst_10 : FVec F S_ .f32 := constant S_ .f32 0x00000000#32
  let main_v32 : FVec F S8x8 .f32 := broadcastInDim S8x8 ![] bcast_S_S8x8 main_cst_10
  let main_v33 : IVec S8x8 1 := cmpf .oeq main_v31 main_v32
  let main_c_11 : IVec S_ 1 := constantI S_ 1 1#1
  fn_part2 (F := F) main_v30 main_v33 main_c_11

def fn {F : FTy → Type} [FloatOps F] (main_arg0 : FVec F S16896x12288 .bf16) (main_arg1 : FVec F S16896x128 .f32) (main_arg2 : FVec F S2x8 .f32) (main_arg3 : FVec F S2x8 .f32) (main_arg4 : FVec F S2x2048 .f32) (main_arg5 : FVec F S8x8x256x128 .f32) (main_arg6 : FVec F S8x8x128 .f32) (main_arg7 : FVec F S8x8 .f32) : IVec S_ 1 :=
  let main_v0 : FVec F S16896x12288 .f32 := (extf .f32 · bitsLt_bf16_f32) main_arg0
  let main_v1 : FVec F S16896x12288 .f32 := (extf .f32 · bitsLt_bf16_f32) main_arg0
  let main_v2 : FVec F S16896x12288 .f32 := subf main_v0 main_v1
  let main_cst : FVec F S_ .f32 := constant S_ .f32 0x00000000#32
  let main_v3 : FVec F S16896x12288 .f32 := broadcastInDim S16896x12288 ![] bcast_S_S16896x12288 main_cst
  let main_v4 : IVec S16896x12288 1 := cmpf .oeq main_v2 main_v3
  let main_c : IVec S_ 1 := constantI S_ 1 1#1
  let main_v5 : IVec S_ 1 := (fun x v => Host.reduce IntOp.andi x v reducesTo_S16896x12288_S_d0_1 h_S_) main_v4 main_c
  let main_v6 : FVec F S16896x128 .f32 := subf main_arg1 main_arg1
  let main_cst_0 : FVec F S_ .f32 := constant S_ .f32 0x00000000#32
  let main_v7 : FVec F S16896x128 .f32 := broadcastInDim S16896x128 ![] bcast_S_S16896x128 main_cst_0
  let main_v8 : IVec S16896x128 1 := cmpf .oeq main_v6 main_v7
  let main_c_1 : IVec S_ 1 := constantI S_ 1 1#1
  let main_v9 : IVec S_ 1 := (fun x v => Host.reduce IntOp.andi x v reducesTo_S16896x128_S_d0_1 h_S_) main_v8 main_c_1
  let main_v10 : IVec S_ 1 := andi main_v5 main_v9
  let main_v11 : FVec F S2x8 .f32 := subf main_arg2 main_arg2
  let main_cst_2 : FVec F S_ .f32 := constant S_ .f32 0x00000000#32
  let main_v12 : FVec F S2x8 .f32 := broadcastInDim S2x8 ![] bcast_S_S2x8 main_cst_2
  let main_v13 : IVec S2x8 1 := cmpf .oeq main_v11 main_v12
  let main_c_3 : IVec S_ 1 := constantI S_ 1 1#1
  let main_v14 : IVec S_ 1 := (fun x v => Host.reduce IntOp.andi x v reducesTo_S2x8_S_d0_1 h_S_) main_v13 main_c_3
  let main_v15 : IVec S_ 1 := andi main_v10 main_v14
  let main_v16 : FVec F S2x8 .f32 := subf main_arg3 main_arg3
  let main_cst_4 : FVec F S_ .f32 := constant S_ .f32 0x00000000#32
  fn_part1 (F := F) main_arg5 main_arg6 main_arg7 main_v15 main_v16 main_cst_4
-- ==== Kernel.lean ====
abbrev S16896x12288 : Shape := ⟨2, ![16896, 12288]⟩
abbrev S16896x128 : Shape := ⟨2, ![16896, 128]⟩
abbrev S2x8 : Shape := ⟨2, ![2, 8]⟩
abbrev S2x2048 : Shape := ⟨2, ![2, 2048]⟩
abbrev S8x8x256x128 : Shape := ⟨4, ![8, 8, 256, 128]⟩
abbrev S8x8x128 : Shape := ⟨3, ![8, 8, 128]⟩
abbrev S8x8 : Shape := ⟨2, ![8, 8]⟩
abbrev S1x8 : Shape := ⟨2, ![1, 8]⟩
abbrev S8 : Shape := ⟨1, ![8]⟩
abbrev S16 : Shape := ⟨1, ![16]⟩
abbrev S1x16 : Shape := ⟨2, ![1, 16]⟩
abbrev S_ : Shape := ⟨0, ![]⟩
abbrev S1x128 : Shape := ⟨2, ![1, 128]⟩
abbrev S1x2048 : Shape := ⟨2, ![1, 2048]⟩
abbrev S2048 : Shape := ⟨1, ![2048]⟩
abbrev S1x8x8x256x128 : Shape := ⟨5, ![1, 8, 8, 256, 128]⟩
abbrev S1x8x8x128 : Shape := ⟨4, ![1, 8, 8, 128]⟩
abbrev S8x128 : Shape := ⟨2, ![8, 128]⟩
abbrev S1x8x1x128 : Shape := ⟨4, ![1, 8, 1, 128]⟩
abbrev S16384x2048 : Shape := ⟨2, ![16384, 2048]⟩
abbrev S8x1x128 : Shape := ⟨3, ![8, 1, 128]⟩
abbrev S256x1024 : Shape := ⟨2, ![256, 1024]⟩
abbrev S256x2048 : Shape := ⟨2, ![256, 2048]⟩
abbrev S256x128 : Shape := ⟨2, ![256, 128]⟩
abbrev S1x1x8x256x128 : Shape := ⟨5, ![1, 1, 8, 256, 128]⟩
abbrev S1x1x8x128 : Shape := ⟨4, ![1, 1, 8, 128]⟩
abbrev S1x1x1x128 : Shape := ⟨4, ![1, 1, 1, 128]⟩
abbrev S1x8x256x128 : Shape := ⟨4, ![1, 8, 256, 128]⟩
abbrev S1x8x128 : Shape := ⟨3, ![1, 8, 128]⟩
abbrev S1x1x128 : Shape := ⟨3, ![1, 1, 128]⟩
abbrev S8x128x384 : Shape := ⟨3, ![8, 128, 384]⟩
abbrev S1x1x1x256x128 : Shape := ⟨5, ![1, 1, 1, 256, 128]⟩
abbrev S128x256 : Shape := ⟨2, ![128, 256]⟩
abbrev S1x128x256 : Shape := ⟨3, ![1, 128, 256]⟩
abbrev S128x128 : Shape := ⟨2, ![128, 128]⟩
abbrev S1x128x128 : Shape := ⟨3, ![1, 128, 128]⟩
abbrev S256x256 : Shape := ⟨2, ![256, 256]⟩
abbrev S1024x256 : Shape := ⟨2, ![1024, 256]⟩
abbrev S1x256 : Shape := ⟨2, ![1, 256]⟩
abbrev S256x1 : Shape := ⟨2, ![256, 1]⟩
abbrev S1x1 : Shape := ⟨2, ![1, 1]⟩
abbrev S256 : Shape := ⟨1, ![256]⟩
abbrev S1x128x384 : Shape := ⟨3, ![1, 128, 384]⟩
abbrev S128x384 : Shape := ⟨2, ![128, 384]⟩
abbrev S256x384 : Shape := ⟨2, ![256, 384]⟩
abbrev S384x384 : Shape := ⟨2, ![384, 384]⟩
abbrev S1x1x256x128 : Shape := ⟨4, ![1, 1, 256, 128]⟩

abbrev nBuf : Space → Nat
  | .hbm => 30
  | .vmem => 28
  | .smem => 0
  | _ => 0

abbrev bufTy : (tb : Table) → Fin (tcTables nBuf tb) → BufTy
  | .hbm, ⟨0, _⟩ => ⟨S16896x12288, .bf16⟩
  | .hbm, ⟨1, _⟩ => ⟨S16896x128, .f32⟩
  | .hbm, ⟨2, _⟩ => ⟨S2x8, .f32⟩
  | .hbm, ⟨3, _⟩ => ⟨S2x8, .f32⟩
  | .hbm, ⟨4, _⟩ => ⟨S2x2048, .f32⟩
  | .hbm, ⟨5, _⟩ => ⟨S8x8x256x128, .f32⟩
  | .hbm, ⟨6, _⟩ => ⟨S8x8x128, .f32⟩
  | .hbm, ⟨7, _⟩ => ⟨S8x8, .f32⟩
  | .hbm, ⟨8, _⟩ => ⟨S1x8, .f32⟩
  | .hbm, ⟨9, _⟩ => ⟨S8, .f32⟩
  | .hbm, ⟨10, _⟩ => ⟨S1x8, .f32⟩
  | .hbm, ⟨11, _⟩ => ⟨S8, .f32⟩
  | .hbm, ⟨12, _⟩ => ⟨S16, .f32⟩
  | .hbm, ⟨13, _⟩ => ⟨S1x16, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1x8x8x256x128, .f32⟩
  | .hbm, ⟨21, _⟩ => ⟨S1x8x8x128, .f32⟩
  | .hbm, ⟨22, _⟩ => ⟨S_, .i32⟩
  | .hbm, ⟨23, _⟩ => ⟨S_, .f32⟩
  | .hbm, ⟨24, _⟩ => ⟨S8x128, .f32⟩
  | .hbm, ⟨25, _⟩ => ⟨S1x8x1x128, .f32⟩
  | .hbm, ⟨26, _⟩ => ⟨S16384x2048, .bf16⟩
  | .hbm, ⟨27, _⟩ => ⟨S8x8x256x128, .f32⟩
  | .hbm, ⟨28, _⟩ => ⟨S8x8x128, .f32⟩
  | .hbm, ⟨29, _⟩ => ⟨S8x1x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x2048, .f32⟩
  | .local _ .vmem, ⟨12, _⟩ => ⟨S1x1x8x256x128, .f32⟩
  | .local _ .vmem, ⟨13, _⟩ => ⟨S1x1x8x256x128, .f32⟩
  | .local _ .vmem, ⟨14, _⟩ => ⟨S1x1x8x128, .f32⟩
  | .local _ .vmem, ⟨15, _⟩ => ⟨S1x1x8x128, .f32⟩
  | .local _ .vmem, ⟨16, _⟩ => ⟨S1x1x1x128, .f32⟩
  | .local _ .vmem, ⟨17, _⟩ => ⟨S1x1x1x128, .f32⟩
  | .local _ .vmem, ⟨18, _⟩ => ⟨S256x2048, .bf16⟩
  | .local _ .vmem, ⟨19, _⟩ => ⟨S256x2048, .bf16⟩
  | .local _ .vmem, ⟨20, _⟩ => ⟨S1x8x256x128, .f32⟩
  | .local _ .vmem, ⟨21, _⟩ => ⟨S1x8x256x128, .f32⟩
  | .local _ .vmem, ⟨22, _⟩ => ⟨S1x8x128, .f32⟩
  | .local _ .vmem, ⟨23, _⟩ => ⟨S1x8x128, .f32⟩
  | .local _ .vmem, ⟨24, _⟩ => ⟨S1x1x128, .f32⟩
  | .local _ .vmem, ⟨25, _⟩ => ⟨S1x1x128, .f32⟩
  | .local _ .vmem, ⟨26, _⟩ => ⟨S8x128x384, .f32⟩
  | .local _ .vmem, ⟨27, _⟩ => ⟨S1x128, .f32⟩
  | _, _ => ⟨S16896x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond4 (i : grid0.Coords) : BitVec 1 :=
  let arg0 : BitVec 32 := BitVec.ofNat 32 (i 0).val
  let c8_i32 : BitVec 32 := 8#32
  let v0 : BitVec 1 := Scalar.cmpi .slt arg0 c8_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def k0_cond3 (i : grid0.Coords) : BitVec 1 :=
  let arg1 : BitVec 32 := BitVec.ofNat 32 (i 1).val
  let c7_i32_300 : BitVec 32 := 7#32
  let v1146 : BitVec 1 := Scalar.cmpi .eq arg1 c7_i32_300
  let v1147 : BitVec 32 := Scalar.extui v1146
  let c0_i32_301 : BitVec 32 := 0#32
  let v1148 : BitVec 1 := Scalar.cmpi .ne v1147 c0_i32_301
  v1148

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "inv_scale" => some (((11863283 / 134217728)⁻¹ : ℝ) : EReal)
  | "mask" => some ⊥
  | _ => none
-- ==== ReferenceIdeal.lean ====
abbrev S16896x12288 : Shape := ⟨2, ![16896, 12288]⟩
abbrev S16896x128 : Shape := ⟨2, ![16896, 128]⟩
abbrev S2x8 : Shape := ⟨2, ![2, 8]⟩
abbrev S2x2048 : Shape := ⟨2, ![2, 2048]⟩
abbrev S8x8x256x128 : Shape := ⟨4, ![8, 8, 256, 128]⟩
abbrev S8x8x128 : Shape := ⟨3, ![8, 8, 128]⟩
abbrev S8x8 : Shape := ⟨2, ![8, 8]⟩
abbrev S16384x12288 : Shape := ⟨2, ![16384, 12288]⟩
abbrev S16384x128 : Shape := ⟨2, ![16384, 128]⟩
abbrev S8x2048x128 : Shape := ⟨3, ![8, 2048, 128]⟩
abbrev S16384x1024 : Shape := ⟨2, ![16384, 1024]⟩
abbrev S8x2048x8x128 : Shape := ⟨4, ![8, 2048, 8, 128]⟩
abbrev S_ : Shape := ⟨0, ![]⟩
abbrev S16384x2048 : Shape := ⟨2, ![16384, 2048]⟩
abbrev S8x2048x8x256 : Shape := ⟨4, ![8, 2048, 8, 256]⟩
abbrev S8x2048x2048 : Shape := ⟨3, ![8, 2048, 2048]⟩
abbrev S8x2048x8 : Shape := ⟨3, ![8, 2048, 8]⟩
abbrev S1x8 : Shape := ⟨2, ![1, 8]⟩
abbrev S8 : Shape := ⟨1, ![8]⟩
abbrev S1x1x8 : Shape := ⟨3, ![1, 1, 8]⟩
abbrev S2048x2048 : Shape := ⟨2, ![2048, 2048]⟩
abbrev S8x2048x1x8 : Shape := ⟨4, ![8, 2048, 1, 8]⟩
abbrev S8x1x2048x8 : Shape := ⟨4, ![8, 1, 2048, 8]⟩
abbrev S8x2048x2048x8 : Shape := ⟨4, ![8, 2048, 2048, 8]⟩
abbrev S1x2048x2048x1 : Shape := ⟨4, ![1, 2048, 2048, 1]⟩
abbrev S8x1x8 : Shape := ⟨3, ![8, 1, 8]⟩
abbrev S8x8x2048x2048 : Shape := ⟨4, ![8, 8, 2048, 2048]⟩
abbrev S8x8x256x2048 : Shape := ⟨4, ![8, 8, 256, 2048]⟩
abbrev S8x2048x8x1 : Shape := ⟨4, ![8, 2048, 8, 1]⟩
abbrev S8x8x2048x256 : Shape := ⟨4, ![8, 8, 2048, 256]⟩
abbrev S8x8x2048 : Shape := ⟨3, ![8, 8, 2048]⟩
abbrev S8x8x1x1 : Shape := ⟨4, ![8, 8, 1, 1]⟩
abbrev S8x8x1 : Shape := ⟨3, ![8, 8, 1]⟩
abbrev S1x2048 : Shape := ⟨2, ![1, 2048]⟩
abbrev S2048 : Shape := ⟨1, ![2048]⟩
abbrev S1x1x2048 : Shape := ⟨3, ![1, 1, 2048]⟩
abbrev S8x128 : Shape := ⟨2, ![8, 128]⟩
abbrev S8x1x128 : Shape := ⟨3, ![8, 1, 128]⟩

abbrev nBuf : Space → Nat
  | .hbm => 177
  | .vmem => 0
  | .smem => 0
  | _ => 0

abbrev hbmTy0_0 (i : Nat) : BufTy := match i % 128 with
  | 0 => ⟨S16896x12288, .bf16⟩
  | 1 => ⟨S16896x128, .f32⟩
  | 2 => ⟨S2x8, .f32⟩
  | 3 => ⟨S2x8, .f32⟩
  | 4 => ⟨S2x2048, .f32⟩
  | 5 => ⟨S8x8x256x128, .f32⟩
  | 6 => ⟨S8x8x128, .f32⟩
  | 7 => ⟨S8x8, .f32⟩
  | 8 => ⟨S16384x12288, .bf16⟩
  | 9 => ⟨S16384x12288, .f32⟩
  | 10 => ⟨S16384x128, .f32⟩
  | 11 => ⟨S8x2048x128, .f32⟩
  | 12 => ⟨S16384x1024, .f32⟩
  | 13 => ⟨S8x2048x8x128, .f32⟩
  | 14 => ⟨S16384x1024, .f32⟩
  | 15 => ⟨S8x2048x8x128, .f32⟩
  | 16 => ⟨S_, .f32⟩
  | 17 => ⟨S8x2048x8x128, .f32⟩
  | 18 => ⟨S8x2048x8x128, .f32⟩
  | 19 => ⟨S16384x2048, .f32⟩
  | 20 => ⟨S8x2048x8x256, .f32⟩
  | 21 => ⟨S16384x2048, .f32⟩
  | 22 => ⟨S8x2048x2048, .f32⟩
  | 23 => ⟨S8x2048x8, .f32⟩
  | 24 => ⟨S1x8, .f32⟩
  | 25 => ⟨S8, .f32⟩
  | 26 => ⟨S1x1x8, .f32⟩
  | 27 => ⟨S8x2048x8, .f32⟩
  | 28 => ⟨S8x2048x8, .f32⟩
  | 29 => ⟨S8x2048x8, .f32⟩
  | 30 => ⟨S1x8, .f32⟩
  | 31 => ⟨S8, .f32⟩
  | 32 => ⟨S1x1x8, .f32⟩
  | 33 => ⟨S8x2048x8, .f32⟩
  | 34 => ⟨S8x2048x8, .f32⟩
  | 35 => ⟨S8x2048x8, .f32⟩
  | 36 => ⟨S_, .f32⟩
  | 37 => ⟨S8x2048x8, .f32⟩
  | 38 => ⟨S8x2048x8, .f32⟩
  | 39 => ⟨S8x2048x8, .f32⟩
  | 40 => ⟨S8x2048x8, .f32⟩
  | 41 => ⟨S8x2048x8, .i1⟩
  | 42 => ⟨S8x2048x8, .f32⟩
  | 43 => ⟨S8x2048x8, .f32⟩
  | 44 => ⟨S8x2048x8, .f32⟩
  | 45 => ⟨S8x2048x8, .f32⟩
  | 46 => ⟨S8x2048x8, .f32⟩
  | 47 => ⟨S8x2048x8, .f32⟩
  | 48 => ⟨S8x2048x8, .f32⟩
  | 49 => ⟨S8x2048x8, .f32⟩
  | 50 => ⟨S8x2048x8, .f32⟩
  | 51 => ⟨S_, .f32⟩
  | 52 => ⟨S_, .f32⟩
  | 53 => ⟨S8x2048x8, .f32⟩
  | 54 => ⟨S_, .i1⟩
  | 55 => ⟨S2048x2048, .i1⟩
  | 56 => ⟨S2048x2048, .i32⟩
  | 57 => ⟨S_, .i32⟩
  | 58 => ⟨S2048x2048, .i32⟩
  | 59 => ⟨S2048x2048, .i32⟩
  | 60 => ⟨S2048x2048, .i32⟩
  | 61 => ⟨S2048x2048, .i1⟩
  | 62 => ⟨S_, .i1⟩
  | 63 => ⟨S2048x2048, .i1⟩
  | 64 => ⟨S2048x2048, .i1⟩
  | 65 => ⟨S8x2048x1x8, .f32⟩
  | 66 => ⟨S8x1x2048x8, .f32⟩
  | 67 => ⟨S8x2048x2048x8, .f32⟩
  | 68 => ⟨S8x2048x2048x8, .f32⟩
  | 69 => ⟨S8x2048x2048x8, .f32⟩
  | 70 => ⟨S8x1x2048x8, .f32⟩
  | 71 => ⟨S8x2048x2048x8, .f32⟩
  | 72 => ⟨S8x2048x2048x8, .f32⟩
  | 73 => ⟨S1x2048x2048x1, .i1⟩
  | 74 => ⟨S_, .f32⟩
  | 75 => ⟨S_, .f32⟩
  | 76 => ⟨S8x2048x2048x8, .i1⟩
  | 77 => ⟨S8x2048x2048x8, .f32⟩
  | 78 => ⟨S8x2048x2048x8, .f32⟩
  | 79 => ⟨S8x1x8, .f32⟩
  | 80 => ⟨S8x2048x8, .f32⟩
  | 81 => ⟨S8x2048x8, .f32⟩
  | 82 => ⟨S_, .f32⟩
  | 83 => ⟨S8x2048x8, .f32⟩
  | 84 => ⟨S8x2048x8, .f32⟩
  | 85 => ⟨S8x2048x1x8, .f32⟩
  | 86 => ⟨S8x2048x2048x8, .f32⟩
  | 87 => ⟨S8x2048x2048x8, .f32⟩
  | 88 => ⟨S8x2048x2048x8, .f32⟩
  | 89 => ⟨S8x2048x8, .f32⟩
  | 90 => ⟨S8x2048x8, .f32⟩
  | 91 => ⟨S8x8x2048x2048, .f32⟩
  | 92 => ⟨S8x2048x2048x8, .f32⟩
  | 93 => ⟨S8x2048x2048x8, .f32⟩
  | 94 => ⟨S8x8x256x2048, .f32⟩
  | 95 => ⟨S8x2048x8x256, .f32⟩
  | 96 => ⟨S8x2048x8x1, .f32⟩
  | 97 => ⟨S8x8x2048x256, .f32⟩
  | 98 => ⟨S8x2048x8x256, .f32⟩
  | 99 => ⟨S8x2048x8x256, .f32⟩
  | 100 => ⟨S8x2048x8x256, .f32⟩
  | 101 => ⟨S8x2048x8x256, .f32⟩
  | 102 => ⟨S_, .f32⟩
  | 103 => ⟨S8x2048x8, .f32⟩
  | 104 => ⟨S8x8x2048, .f32⟩
  | 105 => ⟨S8x2048x8, .f32⟩
  | 106 => ⟨S8x2048x8, .f32⟩
  | 107 => ⟨S8x2048x8, .f32⟩
  | 108 => ⟨S8x2048x8, .f32⟩
  | 109 => ⟨S8x2048x8, .f32⟩
  | 110 => ⟨S8x2048x8, .f32⟩
  | 111 => ⟨S8x2048x8, .f32⟩
  | 112 => ⟨S8x2048x8x1, .f32⟩
  | 113 => ⟨S8x2048x8x256, .f32⟩
  | 114 => ⟨S8x2048x8x256, .f32⟩
  | 115 => ⟨S8x1x8, .f32⟩
  | 116 => ⟨S8x8, .f32⟩
  | 117 => ⟨S8x1x8, .f32⟩
  | 118 => ⟨S8x2048x8, .f32⟩
  | 119 => ⟨S8x2048x8, .f32⟩
  | 120 => ⟨S8x2048x8, .f32⟩
  | 121 => ⟨S8x1x8, .f32⟩
  | 122 => ⟨S8x2048x8, .f32⟩
  | 123 => ⟨S8x2048x8, .f32⟩
  | 124 => ⟨S8x2048x8, .f32⟩
  | 125 => ⟨S8x1x8, .f32⟩
  | 126 => ⟨S8x8, .f32⟩
  | 127 => ⟨S8x8, .f32⟩
  | _ => ⟨S16896x12288, .bf16⟩

abbrev hbmTy0_1 (i : Nat) : BufTy := match i % 128 with
  | 0 => ⟨S8x8, .f32⟩
  | 1 => ⟨S8x8, .f32⟩
  | 2 => ⟨S8x8x1x1, .f32⟩
  | 3 => ⟨S8x8x256x128, .f32⟩
  | 4 => ⟨S8x8x256x128, .f32⟩
  | 5 => ⟨S8x2048x8x1, .f32⟩
  | 6 => ⟨S8x2048x8x256, .f32⟩
  | 7 => ⟨S8x2048x8x256, .f32⟩
  | 8 => ⟨S8x8x256x128, .f32⟩
  | 9 => ⟨S8x8x256x128, .f32⟩
  | 10 => ⟨S8x8x1, .f32⟩
  | 11 => ⟨S8x8x128, .f32⟩
  | 12 => ⟨S8x8x128, .f32⟩
  | 13 => ⟨S8x8x128, .f32⟩
  | 14 => ⟨S8x8x128, .f32⟩
  | 15 => ⟨S8x2048x8x256, .f32⟩
  | 16 => ⟨S_, .f32⟩
  | 17 => ⟨S8x2048x8, .f32⟩
  | 18 => ⟨S8x2048x8x1, .f32⟩
  | 19 => ⟨S_, .f32⟩
  | 20 => ⟨S8x2048x8x1, .f32⟩
  | 21 => ⟨S8x2048x8x1, .f32⟩
  | 22 => ⟨S_, .f32⟩
  | 23 => ⟨S8x2048x8x1, .f32⟩
  | 24 => ⟨S8x2048x8x1, .f32⟩
  | 25 => ⟨S8x2048x8x1, .f32⟩
  | 26 => ⟨S8x2048x8x256, .f32⟩
  | 27 => ⟨S8x2048x8x256, .f32⟩
  | 28 => ⟨S8x2048x2048, .f32⟩
  | 29 => ⟨S1x2048, .f32⟩
  | 30 => ⟨S2048, .f32⟩
  | 31 => ⟨S1x1x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .f32⟩
  | 42 => ⟨S8x2048x2048, .f32⟩
  | 43 => ⟨S8x2048x2048, .bf16⟩
  | 44 => ⟨S16384x2048, .bf16⟩
  | 45 => ⟨S_, .i32⟩
  | 46 => ⟨S_, .f32⟩
  | 47 => ⟨S8x128, .f32⟩
  | 48 => ⟨S8x1x128, .f32⟩
  | _ => ⟨S16896x12288, .bf16⟩

abbrev hbmTy (i : Nat) : BufTy := match i / 128 with
  | 0 => hbmTy0_0 i
  | 1 => hbmTy0_1 i
  | _ => ⟨S16896x12288, .bf16⟩

abbrev bufTy : (tb : Table) → Fin (tcTables nBuf tb) → BufTy
  | .hbm, ⟨i, _⟩ => hbmTy i
  | _, _ => ⟨S16896x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v26 : Ref sig .tc := ⟨.hbm, 50, rfl⟩
abbrev main_call1_call0_cst : Ref sig .tc := ⟨.hbm, 51, rfl⟩
abbrev main_call1_call0_v0 : Ref sig .tc := ⟨.hbm, 52, rfl⟩
abbrev main_v27 : Ref sig .tc := ⟨.hbm, 53, rfl⟩
abbrev main_c : Ref sig .tc := ⟨.hbm, 54, rfl⟩
abbrev main_v28 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_0 : Ref sig .tc := ⟨.hbm, 62, rfl⟩
abbrev main_call2_v5 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_0 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_1 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_2 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_3 : Ref sig .tc := ⟨.hbm, 144, rfl⟩
abbrev main_v103 : Ref sig .tc := ⟨.hbm, 145, rfl⟩
abbrev main_v104 : Ref sig .tc := ⟨.hbm, 146, rfl⟩
abbrev main_cst_4 : Ref sig .tc := ⟨.hbm, 147, rfl⟩
abbrev main_v105 : Ref sig .tc := ⟨.hbm, 148, rfl⟩
abbrev main_v106 : Ref sig .tc := ⟨.hbm, 149, rfl⟩
abbrev main_cst_5 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_6 : Ref sig .tc := ⟨.hbm, 164, rfl⟩
abbrev main_v120 : Ref sig .tc := ⟨.hbm, 165, rfl⟩
abbrev main_v121 : Ref sig .tc := ⟨.hbm, 166, rfl⟩
abbrev main_cst_7 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_8 : Ref sig .tc := ⟨.hbm, 173, rfl⟩
abbrev main_call4_v0 : Ref sig .tc := ⟨.hbm, 174, rfl⟩
abbrev main_v127 : Ref sig .tc := ⟨.hbm, 175, rfl⟩
abbrev main_v128 : Ref sig .tc := ⟨.hbm, 176, rfl⟩

abbrev nD : Nat := 1
abbrev τ : Topo := Topo.v7x

variable {F : FTy → Type} [FloatOps F]
-- ==== InProj.lean ====
abbrev S16896x2048 : Shape := ⟨2, ![16896, 2048]⟩
abbrev S2x2048x12304 : Shape := ⟨3, ![2, 2048, 12304]⟩
abbrev S2x12304x2048 : Shape := ⟨3, ![2, 12304, 2048]⟩
abbrev S16896x12288 : Shape := ⟨2, ![16896, 12288]⟩
abbrev S1536x2048 : Shape := ⟨2, ![1536, 2048]⟩
abbrev S1x1024x2048 : Shape := ⟨3, ![1, 1024, 2048]⟩
abbrev S1x16x2048 : Shape := ⟨3, ![1, 16, 2048]⟩
abbrev S1536x1024 : Shape := ⟨2, ![1536, 1024]⟩
abbrev S2048x1024 : Shape := ⟨2, ![2048, 1024]⟩
abbrev S1x128x2048 : Shape := ⟨3, ![1, 128, 2048]⟩
abbrev S128x2048 : Shape := ⟨2, ![128, 2048]⟩
abbrev S2048x128 : Shape := ⟨2, ![2048, 128]⟩
abbrev S1x112x2048 : Shape := ⟨3, ![1, 112, 2048]⟩
abbrev S112x2048 : Shape := ⟨2, ![112, 2048]⟩
abbrev S16x2048 : Shape := ⟨2, ![16, 2048]⟩

abbrev nBuf : Space → Nat
  | .hbm => 4
  | .vmem => 9
  | .smem => 0
  | _ => 0

abbrev bufTy : (tb : Table) → Fin (tcTables nBuf tb) → BufTy
  | .hbm, ⟨0, _⟩ => ⟨S16896x2048, .bf16⟩
  | .hbm, ⟨1, _⟩ => ⟨S2x2048x12304, .f32⟩
  | .hbm, ⟨2, _⟩ => ⟨S2x12304x2048, .f32⟩
  | .hbm, ⟨3, _⟩ => ⟨S16896x12288, .bf16⟩
  | .local _ .vmem, ⟨0, _⟩ => ⟨S1536x2048, .bf16⟩
  | .local _ .vmem, ⟨1, _⟩ => ⟨S1536x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x16x2048, .f32⟩
  | .local _ .vmem, ⟨5, _⟩ => ⟨S1x16x2048, .f32⟩
  | .local _ .vmem, ⟨6, _⟩ => ⟨S1536x1024, .bf16⟩
  | .local _ .vmem, ⟨7, _⟩ => ⟨S1536x1024, .bf16⟩
  | .local _ .vmem, ⟨8, _⟩ => ⟨S2048x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S16896x2048 : Shape := ⟨2, ![16896, 2048]⟩
abbrev S2x2048x12304 : Shape := ⟨3, ![2, 2048, 12304]⟩
abbrev S1x2048x12304 : Shape := ⟨3, ![1, 2048, 12304]⟩
abbrev S2048x12304 : Shape := ⟨2, ![2048, 12304]⟩
abbrev S16896x12304 : Shape := ⟨2, ![16896, 12304]⟩
abbrev S16896x1024 : Shape := ⟨2, ![16896, 1024]⟩
abbrev S16896x8 : Shape := ⟨2, ![16896, 8]⟩
abbrev S16896x12288 : Shape := ⟨2, ![16896, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2x2048x12304, .f32⟩
  | .hbm, ⟨2, _⟩ => ⟨S16896x2048, .f32⟩
  | .hbm, ⟨3, _⟩ => ⟨S1x2048x12304, .f32⟩
  | .hbm, ⟨4, _⟩ => ⟨S2048x12304, .f32⟩
  | .hbm, ⟨5, _⟩ => ⟨S16896x12304, .f32⟩
  | .hbm, ⟨6, _⟩ => ⟨S16896x1024, .f32⟩
  | .hbm, ⟨7, _⟩ => ⟨S16896x1024, .f32⟩
  | .hbm, ⟨8, _⟩ => ⟨S16896x2048, .f32⟩
  | .hbm, ⟨9, _⟩ => ⟨S16896x2048, .f32⟩
  | .hbm, ⟨10, _⟩ => ⟨S16896x8, .f32⟩
  | .hbm, ⟨11, _⟩ => ⟨S16896x8, .f32⟩
  | .hbm, ⟨12, _⟩ => ⟨S16896x2048, .f32⟩
  | .hbm, ⟨13, _⟩ => ⟨S16896x2048, .f32⟩
  | .hbm, ⟨14, _⟩ => ⟨S16896x2048, .f32⟩
  | .hbm, ⟨15, _⟩ => ⟨S16896x12288, .f32⟩
  | .hbm, ⟨16, _⟩ => ⟨S16896x12288, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Merge.lean ====
abbrev S16384x2048 : Shape := ⟨2, ![16384, 2048]⟩
abbrev S512x2048 : Shape := ⟨2, ![512, 2048]⟩
abbrev S16384x1024 : Shape := ⟨2, ![16384, 1024]⟩
abbrev S512x1024 : Shape := ⟨2, ![512, 1024]⟩
abbrev S16896x12288 : Shape := ⟨2, ![16896, 12288]⟩
abbrev S2x2048x2048 : Shape := ⟨3, ![2, 2048, 2048]⟩
abbrev S2x1024x2048 : Shape := ⟨3, ![2, 1024, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩
abbrev S16896x2048 : Shape := ⟨2, ![16896, 2048]⟩
abbrev S2048x1024 : Shape := ⟨2, ![2048, 1024]⟩
abbrev S1024x1024 : Shape := ⟨2, ![1024, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x1024, .bf16⟩
  | .hbm, ⟨3, _⟩ => ⟨S512x1024, .bf16⟩
  | .hbm, ⟨4, _⟩ => ⟨S16896x12288, .bf16⟩
  | .hbm, ⟨5, _⟩ => ⟨S2x2048x2048, .f32⟩
  | .hbm, ⟨6, _⟩ => ⟨S2x1024x2048, .f32⟩
  | .hbm, ⟨7, _⟩ => ⟨S1x2048x2048, .f32⟩
  | .hbm, ⟨8, _⟩ => ⟨S2048x2048, .f32⟩
  | .hbm, ⟨9, _⟩ => ⟨S2048x2048, .bf16⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S16896x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 33], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S16384x2048 : Shape := ⟨2, ![16384, 2048]⟩
abbrev S512x2048 : Shape := ⟨2, ![512, 2048]⟩
abbrev S16384x1024 : Shape := ⟨2, ![16384, 1024]⟩
abbrev S512x1024 : Shape := ⟨2, ![512, 1024]⟩
abbrev S16896x12288 : Shape := ⟨2, ![16896, 12288]⟩
abbrev S2x2048x2048 : Shape := ⟨3, ![2, 2048, 2048]⟩
abbrev S2x1024x2048 : Shape := ⟨3, ![2, 1024, 2048]⟩
abbrev S16896x2048 : Shape := ⟨2, ![16896, 2048]⟩
abbrev S16896x1024 : Shape := ⟨2, ![16896, 1024]⟩
abbrev S_ : Shape := ⟨0, ![]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S512x2048, .bf16⟩
  | .hbm, ⟨2, _⟩ => ⟨S16384x1024, .bf16⟩
  | .hbm, ⟨3, _⟩ => ⟨S512x1024, .bf16⟩
  | .hbm, ⟨4, _⟩ => ⟨S16896x12288, .bf16⟩
  | .hbm, ⟨5, _⟩ => ⟨S2x2048x2048, .f32⟩
  | .hbm, ⟨6, _⟩ => ⟨S2x1024x2048, .f32⟩
  | .hbm, ⟨7, _⟩ => ⟨S16896x2048, .bf16⟩
  | .hbm, ⟨8, _⟩ => ⟨S16896x2048, .f32⟩
  | .hbm, ⟨9, _⟩ => ⟨S16896x1024, .bf16⟩
  | .hbm, ⟨10, _⟩ => ⟨S16896x1024, .f32⟩
  | .hbm, ⟨11, _⟩ => ⟨S16896x12288, .f32⟩
  | .hbm, ⟨12, _⟩ => ⟨S16896x2048, .f32⟩
  | .hbm, ⟨13, _⟩ => ⟨S16896x2048, .f32⟩
  | .hbm, ⟨14, _⟩ => ⟨S16896x2048, .f32⟩
  | .hbm, ⟨15, _⟩ => ⟨S16896x2048, .f32⟩
  | .hbm, ⟨16, _⟩ => ⟨S_, .f32⟩
  | .hbm, ⟨17, _⟩ => ⟨S16896x2048, .f32⟩
  | .hbm, ⟨18, _⟩ => ⟨S16896x2048, .f32⟩
  | .hbm, ⟨19, _⟩ => ⟨S_, .f32⟩
  | .hbm, ⟨20, _⟩ => ⟨S16896x2048, .f32⟩
  | .hbm, ⟨21, _⟩ => ⟨S16896x2048, .f32⟩
  | .hbm, ⟨22, _⟩ => ⟨S1x2048x2048, .f32⟩
  | .hbm, ⟨23, _⟩ => ⟨S2048x2048, .f32⟩
  | .hbm, ⟨24, _⟩ => ⟨S16896x2048, .f32⟩
  | .hbm, ⟨25, _⟩ => ⟨S16896x2048, .f32⟩
  | .hbm, ⟨26, _⟩ => ⟨S16896x2048, .f32⟩
  | .hbm, ⟨27, _⟩ => ⟨S16896x2048, .f32⟩
  | .hbm, ⟨28, _⟩ => ⟨S_, .f32⟩
  | .hbm, ⟨29, _⟩ => ⟨S16896x2048, .f32⟩
  | .hbm, ⟨30, _⟩ => ⟨S16896x2048, .f32⟩
  | .hbm, ⟨31, _⟩ => ⟨S_, .f32⟩
  | .hbm, ⟨32, _⟩ => ⟨S16896x2048, .f32⟩
  | .hbm, ⟨33, _⟩ => ⟨S16896x2048, .f32⟩
  | .hbm, ⟨34, _⟩ => ⟨S1x1024x2048, .f32⟩
  | .hbm, ⟨35, _⟩ => ⟨S1024x2048, .f32⟩
  | .hbm, ⟨36, _⟩ => ⟨S16896x2048, .f32⟩
  | .hbm, ⟨37, _⟩ => ⟨S16896x2048, .f32⟩
  | .hbm, ⟨38, _⟩ => ⟨S16896x2048, .f32⟩
  | .hbm, ⟨39, _⟩ => ⟨S16896x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.InProjRef.lean ====
/- What the plain reference of the input projection computes, entry by entry. -/
module

public import proofs.«01_k».proof.Proof.Gen.InProjReferenceIdeal
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.InProjReferenceIdeal.Value

open Cert.InProjReferenceIdeal Cert.InProjReferenceIdeal.Gen

/-- The array that the reference returns, as a function of its arguments. -/
abbrev REF (a0 : FVec Ideal S16896x2048 .bf16) (a1 : FVec Ideal S2x2048x12304 .f32) : FVec Ideal S16896x12288 .bf16 :=
  truncf .bf16 ((concatenate S16896x12288 1 [⟨S16896x1024, ((extractStridedSlice S16896x1024 ![0, 0] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x1024_0_0) : (⟨S16896x1024, .f32⟩ : BufTy).Contents (Elt Ideal))⟩, ⟨S16896x1024, ((extractStridedSlice S16896x1024 ![0, 1024] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x1024_0_1024) : (⟨S16896x1024, .f32⟩ : BufTy).Contents (Elt Ideal))⟩, ⟨S16896x2048, ((extractStridedSlice S16896x2048 ![0, 2048] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x2048_0_2048) : (⟨S16896x2048, .f32⟩ : BufTy).Contents (Elt Ideal))⟩, ⟨S16896x2048, ((extractStridedSlice S16896x2048 ![0, 4096] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x2048_0_4096) : (⟨S16896x2048, .f32⟩ : BufTy).Contents (Elt Ideal))⟩, ⟨S16896x2048, ((extractStridedSlice S16896x2048 ![0, 6160] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x2048_0_6160) : (⟨S16896x2048, .f32⟩ : BufTy).Contents (Elt Ideal))⟩, ⟨S16896x2048, ((extractStridedSlice S16896x2048 ![0, 8208] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x2048_0_8208) : (⟨S16896x2048, .f32⟩ : BufTy).Contents (Elt Ideal))⟩, ⟨S16896x2048, ((extractStridedSlice S16896x2048 ![0, 10256] (Host.dotGeneral dot_S16896x2048_S2048x12304_S16896x12304_1_0_0_1_n_n none (extf .f32 a0 bitsLt_bf16_f32) (shapeCast _ (extractStridedSlice S1x2048x12304 ![0, 0, 0] a1 slices_S2x2048x12304_S1x2048x12304_0_0_0) shapeCasts_S1x2048x12304_S2048x12304)) slices_S16896x12304_S16896x2048_0_10256) : (⟨S16896x2048, .f32⟩ : BufTy).Contents (Elt Ideal))⟩] concatenates_S16896x1024_S16896x1024_S16896x2048_S16896x2048_S16896x2048_S16896x2048_S16896x2048_S16896x12288_d1 : (⟨S16896x12288, .f32⟩ : BufTy).Contents (Elt Ideal))) bitsLt_bf16_f32

/-- One entry of the reference: an inner product of a row with a column of the weight, the column past the sixteen gate columns where it is not among the first 6144. -/
theorem ref_at (a0 : FVec Ideal S16896x2048 .bf16) (a1 : FVec Ideal S2x2048x12304 .f32) (i : S16896x12288.Idx) :
    REF a0 a1 i
      = ∑ x : Fin 2048, a0 (ix2 (i 0) x) * a1 (ix3 0 x ⟨(i 1).val + (if (i 1).val < 6144 then 0 else 16), by
          have := (i 1).isLt; simp only [S16896x12288] at this; simp at this; show _ < 12304; split <;> omega⟩) := by
  pointwise [REF]
  by_cases h : (i 1).val < 6144
  · simp only [h, if_true]
    split_ifs <;> first | omega | (refine Finset.sum_congr rfl fun x _ => congrArg (fun j => a0 (ix2 (i 0) x) * a1 (ix3 0 x j)) (Fin.ext ?_); dsimp only; omega)
  · simp only [h, if_false]
    split_ifs <;> first | omega | (refine Finset.sum_congr rfl fun x _ => congrArg (fun j => a0 (ix2 (i 0) x) * a1 (ix3 0 x j)) (Fin.ext ?_); dsimp only; omega)

end Cert.InProjReferenceIdeal.Value

end
-- ==== Proof.InProjValue.lean ====
/- The kernel of the input projection, which carries a block of the weight across grid points, leaves in its result array what the plain reference computes. -/
module

public import proofs.«01_k».proof.Proof.InProjRef
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InProjIdeal.Value

open Cert.InProjIdeal Cert.InProjIdeal.Gen

variable (m : (ℓ : Loc nD τ sig) → Buf (Elt Ideal) ℓ)

/-- The block carried after a first point of an aligned column block: the transposed weight block. -/
theorem sA (c : Dev nD) (t : Fin cfg0.N) (h0 : t.val / 11 % 12 + 6 * (t.val % 11) ≤ 5) (h1 : ¬6 * (t.val % 11) + 6 ≤ t.val / 11 % 12) (y : S2048x1024.Idx) :
    (outsAt0 m c t.val t.isLt).2 y = X0_1 m c t (ix3 0 (y 1) (y 0)) := by
  rw [outsAt0_A m c t h0 h1]
  generalize X0_1 m c t = X
  frame_out
  canon_tiles x h
  all_goals (open_payloads; pointwise [])
  all_goals blk_ext []

/-- The block carried after a first point of a shifted column block: the weight block moved by the sixteen gate rows. -/
theorem sC (c : Dev nD) (t : Fin cfg0.N) (h0 : ¬ t.val / 11 % 12 + 6 * (t.val % 11) ≤ 5) (h1 : 6 * (t.val % 11) + 6 ≤ t.val / 11 % 12) (y : S2048x1024.Idx) :
    (outsAt0 m c t.val t.isLt).2 y = if h : (y 1).val < 1008 then X0_1 m c t (ix3 0 ⟨(y 1).val + 16, by omega⟩ (y 0))
      else iblk m c 2 t (ix3 0 ⟨(y 1).val - 1008, by have : (y 1).val < 1024 := (y 1).isLt; omega⟩ (y 0)) := by
  rw [outsAt0_C m c t h0 h1]
  generalize X0_1 m c t = X
  generalize iblk m c 2 t = Y
  frame_out
  canon_tiles x h
  all_goals (open_payloads; pointwise [])
  all_goals by_cases hy : (y 1).val < 1008
  all_goals first | rw [dif_pos hy] | rw [dif_neg hy]
  all_goals first | (exfalso; omega) | skip
  all_goals first | blk_ext [] | (split_ifs <;> first | (exfalso; omega) | blk_ext [])

/-- The output of a first point of an aligned column block, in terms of the block carried after it. -/
theorem oA (c : Dev nD) (t : Fin cfg0.N) (h0 : t.val / 11 % 12 + 6 * (t.val % 11) ≤ 5) (h1 : ¬6 * (t.val % 11) + 6 ≤ t.val / 11 % 12) :
    (outsAt0 m c t.val t.isLt).1 = k0_pay9 (iblk m c 0 t) (outsAt0 m c t.val t.isLt).2 := by
  rw [outsAt0_A m c t h0 h1]
  generalize X0_1 m c t = X
  funext y
  frame_out
  rw [View.readCov_eq_canon']
  refine congrFun (congrArg (k0_pay9 _) (funext fun j => ?_)) y
  refine congrArg (View.canon _) (funext fun a => Fin.ext ?_)
  match a with
  | ⟨0, _⟩ => show 0 + 1 * (j 0).val = (j 0).val; omega
  | ⟨1, _⟩ => show 0 + 1 * (j 1).val = (j 1).val; omega

/-- The output of a first point of a shifted column block, in terms of the block carried after it. -/
theorem oC (c : Dev nD) (t : Fin cfg0.N) (h0 : ¬ t.val / 11 % 12 + 6 * (t.val % 11) ≤ 5) (h1 : 6 * (t.val % 11) + 6 ≤ t.val / 11 % 12) :
    (outsAt0 m c t.val t.isLt).1 = k0_pay9 (iblk m c 0 t) (outsAt0 m c t.val t.isLt).2 := by
  rw [outsAt0_C m c t h0 h1]
  generalize X0_1 m c t = X
  generalize iblk m c 2 t = Y
  funext y
  frame_out
  rw [View.readCov_eq_canon']
  refine congrFun (congrArg (k0_pay9 _) (funext fun j => ?_)) y
  refine congrArg (View.canon _) (funext fun a => Fin.ext ?_)
  match a with
  | ⟨0, _⟩ => show 0 + 1 * (j 0).val = (j 0).val; omega
  | ⟨1, _⟩ => show 0 + 1 * (j 1).val = (j 1).val; omega

/-- The output of every other point, in terms of the block carried after it. -/
theorem oB (c : Dev nD) (t : Fin cfg0.N) (h0 : ¬ t.val / 11 % 12 + 6 * (t.val % 11) ≤ 5) (h1 : ¬6 * (t.val % 11) + 6 ≤ t.val / 11 % 12)  :
    (outsAt0 m c t.val t.isLt).1 = k0_pay9 (iblk m c 0 t) (outsAt0 m c t.val t.isLt).2 := by
  rw [outsAt0_B m c t h0 h1]
  frame_out
  exact congrArg _ (Memref.IsWhole.read_unread _ _)

/-- Every other point leaves the carried block as it was. -/
theorem sB (c : Dev nD) (t : Fin cfg0.N) (h0 : ¬ t.val / 11 % 12 + 6 * (t.val % 11) ≤ 5) (h1 : ¬6 * (t.val % 11) + 6 ≤ t.val / 11 % 12)  :
    (outsAt0 m c t.val t.isLt).2 = (outsAt0 m c (t.val - 1) (Nat.lt_of_le_of_lt (Nat.sub_le _ _) t.isLt)).2 := by
  rw [outsAt0_B m c t h0 h1]
  rfl

/-- Every window's block index at every grid point. -/
theorem idx : ∀ t : Fin cfg0.N, win0_0.index t = ![t.val % 11, 0]
    ∧ win0_1.index t = ![0, t.val / 11, 0]
    ∧ win0_2.index t = ![0, (t.val / 11 + 1) * 64, 0]
    ∧ win0_3.index t = ![t.val % 11, t.val / 11] :=
  (by decide +kernel : ∀ t : Fin grid0.N, _)

/-- The transposed weight as the kernel gets it. -/
theorem made0 (c : Dev nD) (j : S2x12304x2048.Idx) : V m c main_v0 j = m ((c : Thread nD τ).loc main_arg1) (ix3 (j 0) (j 2) (j 1)) := by
  entry_read
  pointwise []

/-- An entry of the weight block that a point reads. -/
theorem x1 (c : Dev nD) (t : Fin cfg0.N) (a : Fin 1024) (b : Fin 2048) :
    X0_1 m c t (ix3 0 a b) = m ((c : Thread nD τ).loc main_arg1) (ix3 0 b ⟨1024 * (t.val / 11) + a.val, by
      have := lt_of_lt_of_eq t.isLt (show cfg0.N = 132 from N_0); show _ < 12304; omega⟩) := by
  obtain ⟨e0, e1, e2, e3⟩ := idx t
  unfold X0_1 Pipeline.Window.fill
  rw [dif_pos (moved0_1 t _)]
  refine (made0 m c _).trans ?_
  blk_ext [e1]

/-- An entry of the sixteen weight rows past the block that a point reads. -/
theorem x2 (c : Dev nD) (t : Fin cfg0.N) (a : Fin 16) (b : Fin 2048) :
    iblk m c 2 t (ix3 0 a b) = m ((c : Thread nD τ).loc main_arg1) (ix3 0 b ⟨1024 * (t.val / 11) + 1024 + a.val, by
      have := lt_of_lt_of_eq t.isLt (show cfg0.N = 132 from N_0); show _ < 12304; omega⟩) := by
  obtain ⟨e0, e1, e2, e3⟩ := idx t
  refine (made0 m c _).trans ?_
  blk_ext [e2]

/-- What the carried block of the weight holds at every point. -/
theorem weight (c : Dev nD) : ∀ (k : ℕ) (t : Fin cfg0.N), t.val % 11 = k → ∀ (y : S2048x1024.Idx) (q : Fin 12304),
    q.val = 1024 * (t.val / 11) + (y 1).val + (if t.val / 11 < 6 then 0 else 16) →
    (outsAt0 m c t.val t.isLt).2 y = m ((c : Thread nD τ).loc main_arg1) (ix3 0 (y 0) q) := by
  intro k
  induction k with
  | zero =>
    intro t ht y q hq
    have hN := lt_of_lt_of_eq t.isLt (show cfg0.N = 132 from N_0)
    have hy : (y 1).val < 1024 := (y 1).isLt
    by_cases h : t.val / 11 < 6
    · rw [if_pos h] at hq
      rw [sA m c t (by omega) (by omega)]
      refine (x1 m c t _ _).trans ?_
      congr 2
      exact Fin.ext (by rw [hq]; dsimp only; omega)
    · rw [if_neg h] at hq
      rw [sC m c t (by omega) (by omega)]
      split_ifs with h2
      · refine (x1 m c t _ _).trans ?_
        congr 2
        exact Fin.ext (by rw [hq]; dsimp only; omega)
      · refine (x2 m c t _ _).trans ?_
        congr 2
        exact Fin.ext (by rw [hq]; dsimp only; omega)
  | succ k ih =>
    intro t ht y q hq
    have hN := lt_of_lt_of_eq t.isLt (show cfg0.N = 132 from N_0)
    rw [sB m c t (by omega) (by omega)]
    refine ih ⟨t.val - 1, Nat.lt_of_le_of_lt (Nat.sub_le _ _) t.isLt⟩ (by dsimp only; omega) y q ?_
    have h : (t.val - 1) / 11 = t.val / 11 := by omega
    dsimp only
    rw [h, hq]

/-- Every point's output is the product of its rows with the carried block. -/
theorem out (c : Dev nD) (t : Fin cfg0.N) : (outsAt0 m c t.val t.isLt).1 = k0_pay9 (iblk m c 0 t) (outsAt0 m c t.val t.isLt).2 := by
  have hN := lt_of_lt_of_eq t.isLt (show cfg0.N = 132 from N_0)
  by_cases h0 : t.val / 11 % 12 + 6 * (t.val % 11) ≤ 5
  · exact oA m c t h0 (by omega)
  · by_cases h1 : 6 * (t.val % 11) + 6 ≤ t.val / 11 % 12
    · exact oC m c t h0 h1
    · exact oB m c t h0 h1

set_option maxHeartbeats 1000000 in
/-- The result array after the run is the reference. -/
theorem final (c : Dev nD) : (dats m 0 c).arrAt 3 (cfgs 0).N = Cert.InProjReferenceIdeal.Value.REF (m ((c : Thread nD τ).loc main_arg0))
    (m ((c : Thread nD τ).loc main_arg1)) := by
  refine (dats m 0 c).arrAt_eq_of_covers 3 _ (by decide +kernel) fun t hf y => ?_
  obtain ⟨e0, e1, e2, e3⟩ := idx t
  have hN := lt_of_lt_of_eq t.isLt (show cfg0.N = 132 from N_0)
  have hy0 : (y 0).val < 1536 := (y 0).isLt
  have hy1 : (y 1).val < 1024 := (y 1).isLt
  blk_simp
  rw [after0_3, out m c t, Cert.InProjReferenceIdeal.Value.ref_at]
  pointwise [k0_pay9]
  show (_ : EReal) = _
  refine Finset.sum_congr rfl fun x _ => congrArg₂ (· * ·) ?_ ?_
  · blk_ext [iblk, V, e0, e3]
  · have hc : (((cfg0.win 3).blk t).view.emb y 1).val = t.val / 11 * 1024 + (y 1).val := by blk_simp [e3]
    refine weight m c _ t rfl (ix2 x (y 1)) ⟨_, _⟩ ?_
    show (((cfg0.win 3).blk t).view.emb y 1).val + (if (((cfg0.win 3).blk t).view.emb y 1).val < 6144 then 0 else 16)
      = 1024 * (t.val / 11) + (y 1).val + (if t.val / 11 < 6 then 0 else 16)
    rw [hc]
    split_ifs <;> omega

end Cert.InProjIdeal.Value

end
-- ==== Proof.Gate.lean ====
/- The gate of a branch, as the kernels spell it (`½ tanh (½ x) + ½`) and as the references spell it (`1 / (1 + exp (−x))`), is one function of the
   extended reals. -/
module

public import Idealize.ShloMosaic.Init
public import Idealize.ShloMosaic.Lib.IdealHost

@[expose] public section

noncomputable section

namespace Cert.Gate

open Idealize.ShloMosaic

/-- The logistic function, as the references spell it. -/
def sig (x : EReal) : EReal := Ideal.div 1 (1 + Ideal.exp (-x))

/-- The binary32 word of one half denotes one half. -/
theorem half_eq : Ideal.ofBits .f32 0x3F000000#32 = ((1 / 2 : ℝ) : EReal) := by
  have h : ((0x3F000000#32 : BitVec 32).extractLsb' (8 + 23) 1 == 1#1) = false := by decide
  have h1 : ((0x3F000000#32 : BitVec 32).extractLsb' 23 8).toNat = 126 := by decide
  have h2 : ((0x3F000000#32 : BitVec 32).extractLsb' 0 23).toNat = 0 := by decide
  simp only [Ideal.ofBits, Ideal.ieee, h, h1, h2]
  norm_num

/-- On the reals: `½ tanh (½ r) + ½ = (1 + exp (−r))⁻¹`. -/
theorem real_gate (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq, h1]
  have ha := Real.exp_pos (1 / 2 * r)
  have hb := Real.exp_pos (-(1 / 2 * r))
  set a := Real.exp (1 / 2 * r)
  set b := Real.exp (-(1 / 2 * r))
  have hab : a + b ≠ 0 := by positivity
  have hbb : 1 + b * b ≠ 0 := by positivity
  field_simp
  linear_combination (2 * b) * h2

/-- The kernels' gate is the references' gate, everywhere on the extended reals. -/
theorem gate_eq (x : EReal) :
    ((1 / 2 : ℝ) : EReal) * Ideal.tanh (((1 / 2 : ℝ) : EReal) * x) + ((1 / 2 : ℝ) : EReal) = sig x := by
  unfold sig
  induction x with
  | bot =>
    rw [EReal.coe_mul_bot_of_pos (by norm_num)]
    rw [Ideal.tanh_bot, EReal.neg_bot, Ideal.exp_top, EReal.add_top_of_ne_bot (by decide), Ideal.div, if_neg (by decide)]
    simp
    norm_cast
    norm_num
  | top =>
    rw [EReal.coe_mul_top_of_pos (by norm_num)]
    rw [Ideal.tanh_top, EReal.neg_top, Ideal.exp_bot, Ideal.div]
    simp
    norm_cast
    norm_num
  | coe r =>
    have h : (1 + Real.exp (-r)) ≠ 0 := by positivity
    have e1 : Ideal.tanh (((1 / 2 : ℝ) : EReal) * (r : EReal)) = ((Real.tanh (1 / 2 * r) : ℝ) : EReal) := by
      rw [← EReal.coe_mul]; rfl
    have e2 : Ideal.exp (-(r : EReal)) = ((Real.exp (-r) : ℝ) : EReal) := by
      rw [← EReal.coe_neg]; rfl
    rw [e1, e2]
    have e3 : (1 : EReal) + ((Real.exp (-r) : ℝ) : EReal) = ((1 + Real.exp (-r) : ℝ) : EReal) := by norm_cast
    rw [e3, ← EReal.coe_mul, ← EReal.coe_add, real_gate r, Ideal.div, if_neg (by exact_mod_cast h), one_mul, EReal.coe_inv]

end Cert.Gate

end
-- ==== Proof.MergeRef.lean ====
/- What the plain reference of the branch merge computes, entry by entry. -/
module

public import proofs.«01_k».proof.Proof.Gate
public import proofs.«01_k».proof.Proof.Gen.MergeReferenceIdeal
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.MergeReferenceIdeal.Value

open Cert.MergeReferenceIdeal Cert.MergeReferenceIdeal.Gen

/-- The array that the reference returns, as a function of its arguments. -/
abbrev REF (a0 : FVec Ideal S16384x2048 .bf16) (a1 : FVec Ideal S512x2048 .bf16) (a2 : FVec Ideal S16384x1024 .bf16) (a3 : FVec Ideal S512x1024 .bf16)
    (a4 : FVec Ideal S16896x12288 .bf16) (a5 : FVec Ideal S2x2048x2048 .f32) (a6 : FVec Ideal S2x1024x2048 .f32) : FVec Ideal S16896x2048 .bf16 :=
  truncf .bf16 (addf (mulf (Host.divf (broadcastInDim S16896x2048 ![] bcast_S_S16896x2048 (constant S_ .f32 0x3F800000#32)) (addf (broadcastInDim S16896x2048 ![] bcast_S_S16896x2048 (constant S_ .f32 0x3F800000#32)) (Host.exp (Host.negf (extractStridedSlice S16896x2048 ![0, 8192] (extf .f32 a4 bitsLt_bf16_f32) slices_S16896x12288_S16896x2048_0_8192))))) (Host.dotGeneral dot_S16896x2048_S2048x2048_S16896x2048_1_0_0_1_n_n none (extf .f32 (concatenate S16896x2048 0 [⟨S16384x2048, a0⟩, ⟨S512x2048, a1⟩] concatenates_S16384x2048_S512x2048_S16896x2048_d0) bitsLt_bf16_f32) (shapeCast _ (extractStridedSlice S1x2048x2048 ![0, 0, 0] a5 slices_S2x2048x2048_S1x2048x2048_0_0_0) shapeCasts_S1x2048x2048_S2048x2048))) (mulf (Host.divf (broadcastInDim S16896x2048 ![] bcast_S_S16896x2048 (constant S_ .f32 0x3F800000#32)) (addf (broadcastInDim S16896x2048 ![] bcast_S_S16896x2048 (constant S_ .f32 0x3F800000#32)) (Host.exp (Host.negf (extractStridedSlice S16896x2048 ![0, 10240] (extf .f32 a4 bitsLt_bf16_f32) slices_S16896x12288_S16896x2048_0_10240))))) (Host.dotGeneral dot_S16896x1024_S1024x2048_S16896x2048_1_0_0_1_n_n none (extf .f32 (concatenate S16896x1024 0 [⟨S16384x1024, a2⟩, ⟨S512x1024, a3⟩] concatenates_S16384x1024_S512x1024_S16896x1024_d0) bitsLt_bf16_f32) (shapeCast _ (extractStridedSlice S1x1024x2048 ![0, 0, 0] a6 slices_S2x1024x2048_S1x1024x2048_0_0_0) shapeCasts_S1x1024x2048_S1024x2048)))) bitsLt_bf16_f32

/-- One entry of the reference: the two gated inner products, their rows taken from the prompt part or the sample part. -/
theorem ref_at (a0 : FVec Ideal S16384x2048 .bf16) (a1 : FVec Ideal S512x2048 .bf16) (a2 : FVec Ideal S16384x1024 .bf16) (a3 : FVec Ideal S512x1024 .bf16)
    (a4 : FVec Ideal S16896x12288 .bf16) (a5 : FVec Ideal S2x2048x2048 .f32) (a6 : FVec Ideal S2x1024x2048 .f32) (i : S16896x2048.Idx) :
    REF a0 a1 a2 a3 a4 a5 a6 i
      = Gate.sig (a4 (ix2 (i 0) ⟨8192 + (i 1).val, by have := (i 1).isLt; show _ < 12288; simp only [S16896x2048] at this; simp at this; omega⟩))
          * (∑ x : Fin 2048, (if h : (i 0).val < 16384 then a0 (ix2 ⟨(i 0).val, h⟩ x)
              else a1 (ix2 ⟨(i 0).val - 16384, by have := (i 0).isLt; simp only [S16896x2048] at this; simp at this; omega⟩ x)) * a5 (ix3 0 x (i 1)))
        + Gate.sig (a4 (ix2 (i 0) ⟨10240 + (i 1).val, by have := (i 1).isLt; show _ < 12288; simp only [S16896x2048] at this; simp at this; omega⟩))
          * (∑ x : Fin 1024, (if h : (i 0).val < 16384 then a2 (ix2 ⟨(i 0).val, h⟩ x)
              else a3 (ix2 ⟨(i 0).val - 16384, by have := (i 0).isLt; simp only [S16896x2048] at this; simp at this; omega⟩ x)) * a6 (ix3 0 x (i 1))) := by
  pointwise [REF]
  rfl

end Cert.MergeReferenceIdeal.Value

end
-- ==== Proof.MergeValue.lean ====
/- The kernel of the branch merge leaves in its result array what the plain reference computes. -/
module

public import proofs.«01_k».proof.Proof.Gate
public import proofs.«01_k».proof.Proof.MergeRef
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MergeIdeal.Value

open Cert.MergeIdeal Cert.MergeIdeal.Gen

variable (m : (ℓ : Loc nD τ sig) → Buf (Elt Ideal) ℓ)

/-- Every window's block index at every grid point. -/
theorem idx : ∀ t : Fin cfg0.N, win0_0.index t = ![min (grid0.coords t 1).val 31, 0]
    ∧ win0_1.index t = ![0, 0]
    ∧ win0_2.index t = ![min (grid0.coords t 1).val 31, 0]
    ∧ win0_3.index t = ![0, 0]
    ∧ win0_4.index t = ![(grid0.coords t 1).val, 8 + (grid0.coords t 0).val]
    ∧ win0_5.index t = ![(grid0.coords t 1).val, 10 + (grid0.coords t 0).val]
    ∧ win0_6.index t = ![0, (grid0.coords t 0).val]
    ∧ win0_7.index t = ![0, (grid0.coords t 0).val]
    ∧ win0_8.index t = ![(grid0.coords t 1).val, (grid0.coords t 0).val] :=
  (by decide +kernel : ∀ t : Fin grid0.N, _)

/-- The row tile is the last one exactly where the body's comparison says so. -/
theorem isLast : ∀ t : Fin cfg0.N, Scalar.cmpi CmpIPredicate.eq (BitVec.ofNat 32 (grid0.coords t 1).val) 32#32
    = (if (grid0.coords t 1).val < 32 then 0#1 else 1#1) :=
  (by decide +kernel : ∀ t : Fin grid0.N, _)

/-- The branch that the comparison's bit chooses. -/
theorem pick {α : Type} (p : Prop) [Decidable p] (a b : α) : Scalar.select (if p then 0#1 else 1#1) a b = if p then b else a := by
  split <;> rfl

/-- The first weight as the kernel gets it: the first layer's matrix. -/
theorem made2 (c : Dev nD) (j : S2048x2048.Idx) : V m c main_v2 j = m ((c : Thread nD τ).loc main_arg5) (ix3 0 (j 0) (j 1)) := by
  entry_read
  pointwise []

/-- The second weight as the kernel gets it: the first layer's matrix. -/
theorem made5 (c : Dev nD) (j : S1024x2048.Idx) : V m c main_v5 j = m ((c : Thread nD τ).loc main_arg6) (ix3 0 (j 0) (j 1)) := by
  entry_read
  pointwise []

set_option maxHeartbeats 1000000 in
/-- What the body stores at block index `y` of point `t` is the reference at the array index that `y` sits at. -/
theorem point (c : Dev nD) (t : Fin cfg0.N) (y) :
    k0_pay1 (k0_pay2 (grid0.coords t) (iblk m c 1 t) (iblk m c 0 t) (iblk m c 6 t) (iblk m c 4 t))
      (k0_pay3 (grid0.coords t) (iblk m c 3 t) (iblk m c 2 t) (iblk m c 7 t) (iblk m c 5 t)) y
      = Cert.MergeReferenceIdeal.Value.REF (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (((cfg0.win 8).blk t).view.emb y) := by
  obtain ⟨e0, e1, e2, e3, e4, e5, e6, e7, e8⟩ := idx t
  have hy : (y 0).val < 512 := (y 0).isLt
  have ht : (grid0.coords t 1).val < 33 := (grid0.coords t 1).isLt
  rw [Cert.MergeReferenceIdeal.Value.ref_at]
  pointwise [k0_pay1, k0_pay2, k0_pay3]
  rw [Gate.half_eq, Gate.gate_eq, Gate.gate_eq, isLast t]
  refine congrArg₂ (· + ·) (congrArg₂ (· * ·) (congrArg Gate.sig ?_) (Finset.sum_congr rfl fun x _ => congrArg₂ (· * ·) ?_ ?_))
    (congrArg₂ (· * ·) (congrArg Gate.sig ?_) (Finset.sum_congr rfl fun x _ => congrArg₂ (· * ·) ?_ ?_))
  · blk_ext [iblk, V, e4, e8]
  · rw [pick]
    split_ifs with h1 h2 h2
    · blk_ext [iblk, V, e0, e8]
    · exact absurd h1 (by blk_simp [e8] at h2; omega)
    · exact absurd h2 (by blk_simp [e8]; omega)
    · have h32 : (grid0.coords t 1).val = 32 := by omega
      rw [h32] at e8
      blk_ext [iblk, V, e1, e8]
  · refine (made2 m c _).trans ?_
    blk_ext [e6, e8]
  · blk_ext [iblk, V, e5, e8]
  · rw [pick]
    split_ifs with h1 h2 h2
    · blk_ext [iblk, V, e2, e8]
    · exact absurd h1 (by blk_simp [e8] at h2; omega)
    · exact absurd h2 (by blk_simp [e8]; omega)
    · have h32 : (grid0.coords t 1).val = 32 := by omega
      rw [h32] at e8
      blk_ext [iblk, V, e3, e8]
  · refine (made5 m c _).trans ?_
    blk_ext [e7, e8]

/-- The result array after the run is the reference. -/
theorem final (c : Dev nD) : (dats m 0 c).arrAt 8 (cfgs 0).N = Cert.MergeReferenceIdeal.Value.REF (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  exact point m c t y

end Cert.MergeIdeal.Value

end
-- ==== Proof.MlstmStep.lean ====
/- One head's share of the recurrence step, with the head as a variable. -/
module

public import proofs.«01_k».proof.Proof.Gen.KernelIdeal
public import proofs.«01_k».proof.Proof.Gen.KernelIdeal.Skeleton
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.KernelIdeal.Step

open Cert.KernelIdeal Cert.KernelIdeal.Gen

/-- A head's columns of the queries lie within the block. -/
theorem slQ : ∀ h : Fin 8, S256x1024.Slices ![0, 128 * h.val] S256x128 := by decide
/-- Half of a head's columns of the values lie within the block. -/
theorem slV : ∀ (h : Fin 8) (j : Fin 2), S256x2048.Slices ![0, 256 * h.val + 128 * j.val] S256x128 := by decide
/-- A head's rows of the transposed keys lie within the block. -/
theorem slK : ∀ h : Fin 8, S1024x256.Slices ![128 * h.val, 0] S128x256 := by decide
/-- A head's row of the transposed gates lies within the block. -/
theorem slRow : ∀ h : Fin 8, S128x256.Slices ![h.val, 0] S1x256 := by decide
/-- A head's column of the gates lies within the block. -/
theorem slCol : ∀ h : Fin 8, S256x128.Slices ![0, h.val] S256x1 := by decide
/-- A head's running maximum lies within the row of maxima. -/
theorem slOld : ∀ h : Fin 8, S1x128.Slices ![0, h.val] S1x1 := by decide
/-- A head's last cumulative log-forget lies within the block. -/
theorem slEnd : ∀ h : Fin 8, S256x128.Slices ![255, h.val] S1x1 := by decide
/-- Half of a head's products lies within its products. -/
theorem slX : ∀ j : Fin 2, S256x384.Slices ![0, 128 * j.val] S256x128 := by decide

/-- The chunk's gate logarithms: the input gate's in the first eight lanes, the forget gate's in the others. -/
abbrev gl (x4 : FVec Ideal S256x128 .f32) (x5 : FVec Ideal S1x128 .f32) : FVec Ideal S256x128 .f32 := k0_pay42 x4 x5
/-- The running sums of the forget gate's logarithms, brought to the first lanes. -/
abbrev bAll (x4 : FVec Ideal S256x128 .f32) (x5 : FVec Ideal S1x128 .f32) : FVec Ideal S256x128 .f32 := k0_pay43 x4 x5
/-- Input gate less running sum. -/
abbrev aAll (x4 : FVec Ideal S256x128 .f32) (x5 : FVec Ideal S1x128 .f32) : FVec Ideal S256x128 .f32 :=
  k0_pay44 (iota Kind.tc S256x128 32 [0] iota_S256x128_d0_w32) (gl x4 x5) (bAll x4 x5)
/-- The same, transposed. -/
abbrev aRows (x4 : FVec Ideal S256x128 .f32) (x5 : FVec Ideal S1x128 .f32) : FVec Ideal S128x256 .f32 :=
  k0_pay46 (iota Kind.tc S256x128 32 [0] iota_S256x128_d0_w32) (gl x4 x5) (bAll x4 x5)

/-- The running maximum at each row of the chunk. -/
def bigM (ar : FVec Ideal S1x256 .f32) (mp : FVec Ideal S1x1 .f32) : FVec Ideal S256x1 .f32 :=
  maximumf (shapeCast S256x1 (multiReduction .maximumf [1] S256 (select k0_pay41 (broadcastTo S256x256 (shapeCast S1x256 ar shapeCasts_S1x256_S1x256) broadcasts_S1x256_S256x256) (broadcast S256x256 (Named.named κ "mask" 0xF149F2CA#32))) 0xFF800000#32 reduces_S256x256_S256 (.inl rfl) rfl) shapeCasts_S256_S256x1) (broadcastTo S256x1 mp broadcasts_S1x1_S256x1)

/-- The weights that row by row a chunk's steps have. -/
def dw (ar : FVec Ideal S1x256 .f32) (M : FVec Ideal S256x1 .f32) : FVec Ideal S256x256 .f32 :=
  select k0_pay41 (exp (minimumf (subf (broadcastTo S256x256 ar broadcasts_S1x256_S256x256) (broadcastTo S256x256 M broadcasts_S256x1_S256x256)) (broadcast S256x256 (Scalar.ofBits .f32 0x00000000#32)))) (broadcast S256x256 (Scalar.ofBits .f32 0x00000000#32))

/-- The weight that row by row the carried state has. -/
def inter (mp : FVec Ideal S1x1 .f32) (M : FVec Ideal S256x1 .f32) : FVec Ideal S256x1 .f32 :=
  exp (subf (broadcastTo S256x1 mp broadcasts_S1x1_S256x1) M)

section
variable (h : Fin 8) (x0 x1 : FVec Ideal S256x1024 .bf16) (x2 : FVec Ideal S256x2048 .bf16) (x4 : FVec Ideal S256x128 .f32) (x5 : FVec Ideal S1x128 .f32)
  (st : FVec Ideal S1x128x384 .f32) (mm : FVec Ideal S1x128 .f32)

/-- Head `h`'s query columns. -/
abbrev qh : FVec Ideal S256x128 .bf16 := extractStridedSlice S256x128 ![0, 128 * h.val] x0 (slQ h)
/-- One half of head `h`'s value columns. -/
abbrev vh (j : Fin 2) : FVec Ideal S256x128 .bf16 := extractStridedSlice S256x128 ![0, 256 * h.val + 128 * j.val] x2 (slV h j)
/-- Head `h`'s key columns, transposed. -/
abbrev kh : FVec Ideal S128x256 .bf16 := extractStridedSlice S128x256 ![128 * h.val, 0] (k0_pay45 x1) (slK h)
/-- Head `h`'s row of `aRows`. -/
abbrev ar : FVec Ideal S1x256 .f32 := extractStridedSlice S1x256 ![h.val, 0] (aRows x4 x5) (slRow h)
/-- Head `h`'s column of an array, in every lane. -/
abbrev colRep (a : FVec Ideal S256x128 .f32) : FVec Ideal S256x128 .f32 :=
  broadcastTo S256x128 (shapeCast S256x1 (extractStridedSlice S256x1 ![0, h.val] a (slCol h)) shapeCasts_S256x1_S256x1) broadcasts_S256x1_S256x128
/-- Head `h`'s carried maximum. -/
abbrev mp : FVec Ideal S1x1 .f32 := extractStridedSlice S1x1 ![0, h.val] mm (slOld h)
/-- Head `h`'s running maxima. -/
abbrev mh : FVec Ideal S256x1 .f32 := bigM (ar h x4 x5) (mp h mm)

/-- Head `h`'s numerators (256 columns) and denominator (128 equal columns). -/
abbrev xh : FVec Ideal S256x384 .f32 :=
  k0_pay60 k0_pay47 (dw (ar h x4 x5) (mh h x4 x5 mm)) (inter (mp h mm) (mh h x4 x5 mm)) (qh h x0) (vh h x2 0) (vh h x2 1) (kh h x1)
    (constant S256x256 .f32 0x00000000#32) st

/-- Head `h`'s factor: one over the denominator's size, times the norm's factor. -/
abbrev sc : FVec Ideal S256x128 .f32 :=
  k0_pay61 k0_pay47 (colRep h (bAll x4 x5)) (mh h x4 x5 mm) (dw (ar h x4 x5) (mh h x4 x5 mm)) (inter (mp h mm) (mh h x4 x5 mm)) (qh h x0) (vh h x2 0) (vh h x2 1) (kh h x1)
    (constant S256x256 .f32 0x00000000#32) st

/-- What the step stores of half `j` of head `h`'s result columns. -/
abbrev outh (j : Fin 2) (ot : FVec Ideal S256x128 .bf16) (gt : FVec Ideal S1x128 .f32) : FVec Ideal S256x128 .bf16 :=
  truncf .bf16 (mulf (mulf (extractStridedSlice S256x128 ![0, 128 * j.val] (xh h x0 x1 x2 x4 x5 st mm) (slX j)) (sc h x0 x1 x2 x4 x5 st mm))
    (mulf (broadcastTo S256x128 (shapeCast S1x128 gt shapeCasts_S1x128_S1x128) broadcasts_S1x128_S256x128)
      (addf (mulf k0_pay63 (k0_pay62 ot)) k0_pay63))) bitsLt_bf16_f32

/-- What the step leaves in head `h`'s slot of the carried state. -/
abbrev stNew : FVec Ideal S1x128x384 .f32 :=
  k0_pay69 (kh h x1) (k0_pay59 st) (k0_pay67 (mp h mm) (mh h x4 x5 mm)) (k0_pay68 (colRep h (aAll x4 x5)) (mh h x4 x5 mm) (vh h x2 0) (vh h x2 1))

/-- The carried maxima with head `h`'s replaced. -/
def mPut (prev : FVec Ideal S1x128 .f32) : FVec Ideal S1x128 .f32 :=
  select (cmpi .eq (iota Kind.tc S1x128 32 [1] iota_S1x128_d1_w32) (broadcast S1x128 (BitVec.ofNat 32 h.val)))
    (broadcastTo S1x128 (shapeCast S1x1 (addf (extractStridedSlice S1x1 ![255, h.val] (bAll x4 x5) (slEnd h)) (k0_pay66 (mh h x4 x5 mm))) shapeCasts_S1x1_S1x1) broadcasts_S1x1_S1x128) prev

end

/-- What the step leaves in the carried maxima. -/
def mNew (x4 : FVec Ideal S256x128 .f32) (x5 : FVec Ideal S1x128 .f32) (mm : FVec Ideal S1x128 .f32) : FVec Ideal S1x128 .f32 :=
  mPut 7 x4 x5 mm (mPut 6 x4 x5 mm (mPut 5 x4 x5 mm (mPut 4 x4 x5 mm (mPut 3 x4 x5 mm (mPut 2 x4 x5 mm (mPut 1 x4 x5 mm (mPut 0 x4 x5 mm mm)))))))

end Cert.KernelIdeal.Step

end
-- ==== Proof.MlstmModel.lean ====
/- The recurrence over the real numbers: running sums and maxima of the gates' logarithms, and the weighted sums that the state, the normalizer and the result are made of. -/
module

public import Idealize.ShloMosaic.Lib.Pipeline.ValueKit

@[expose] public section

noncomputable section

open scoped BigOperators

namespace Cert.Mlstm

variable (fl il : ℕ → ℝ) (m0 : ℝ)

/-- The sum of the forget gate's logarithms at the steps before `n`. -/
def F (n : ℕ) : ℝ := ∑ u ∈ Finset.range n, fl u

/-- The input gate's logarithm at step `s`, less the running sum there. -/
def A (s : ℕ) : ℝ := il s - F fl (s + 1)

/-- The running maximum of `A` at the steps before `n` and of the incoming maximum. -/
def Mx : ℕ → ℝ
  | 0 => m0
  | n + 1 => max (Mx n) (A fl il n)

/-- The state's weighted sum at the steps before `n`, of keys `k`, values `w` and incoming value `s0`. -/
def W (k w : ℕ → ℝ) (s0 : ℝ) (n : ℕ) : ℝ :=
  Real.exp (m0 - Mx fl il m0 n) * s0 + ∑ s ∈ Finset.range n, Real.exp (A fl il s - Mx fl il m0 n) * (k s * w s)

/-- The cumulative log-forget over `p + n` steps is that over the first `p`, plus the sum over the next `n`. -/
theorem F_add (p n : ℕ) : F fl (p + n) = F fl p + ∑ u ∈ Finset.range n, fl (p + u) := by
  unfold F
  exact Finset.sum_range_add _ p n

/-- The running maximum does not fall. -/
theorem Mx_le (p n : ℕ) : Mx fl il m0 p ≤ Mx fl il m0 (p + n) := by
  induction n with
  | zero => exact le_refl _
  | succ n ih => exact le_trans ih (le_max_left _ _)

/-- It is at least every term before. -/
theorem A_le (p n s : ℕ) (h : s < n) : A fl il (p + s) ≤ Mx fl il m0 (p + n) := by
  induction n with
  | zero => omega
  | succ n ih =>
    rcases Nat.lt_succ_iff_lt_or_eq.mp h with h | rfl
    · exact le_trans (ih h) (le_max_left _ _)
    · exact le_max_right _ _

/-- It is the maximum before or one of the terms since. -/
theorem Mx_mem (p n : ℕ) : Mx fl il m0 (p + n) = Mx fl il m0 p ∨ ∃ s, s < n ∧ Mx fl il m0 (p + n) = A fl il (p + s) := by
  induction n with
  | zero => exact .inl rfl
  | succ n ih =>
    change max (Mx fl il m0 (p + n)) (A fl il (p + n)) = _ ∨ ∃ s, s < n + 1 ∧ max (Mx fl il m0 (p + n)) (A fl il (p + n)) = _
    rcases max_choice (Mx fl il m0 (p + n)) (A fl il (p + n)) with e | e
    · rw [e]
      rcases ih with ih | ⟨s, hs, ih⟩
      · exact .inl ih
      · exact .inr ⟨s, by omega, ih⟩
    · exact .inr ⟨n, by omega, e⟩

/-- The running maximum, as a maximum of extended reals over a block of steps with those after row `r` masked. -/
theorem max_row (p n r : ℕ) (hr : r < n) (c : ℝ) :
    max (Finset.univ.fold max (⊥ : EReal) fun s : Fin n => if s.val ≤ r then ((A fl il (p + s.val) + c : ℝ) : EReal) else ⊥) ((c + Mx fl il m0 p : ℝ) : EReal)
      = ((c + Mx fl il m0 (p + (r + 1)) : ℝ) : EReal) := by
  apply le_antisymm
  · refine max_le ((Finset.fold_max_le _).mpr ⟨bot_le, fun s _ => ?_⟩) ?_
    · split
      · have := A_le fl il m0 p (r + 1) s.val (by omega)
        exact EReal.coe_le_coe_iff.mpr (by linarith)
      · exact bot_le
    · have := Mx_le fl il m0 p (r + 1)
      exact EReal.coe_le_coe_iff.mpr (by linarith)
  · rcases Mx_mem fl il m0 p (r + 1) with e | ⟨s, hs, e⟩
    · rw [e]; exact le_max_right _ _
    · rw [e]
      refine le_trans ?_ (le_max_left _ _)
      refine (Finset.le_fold_max _).mpr (.inr ⟨⟨s, by omega⟩, Finset.mem_univ _, ?_⟩)
      rw [if_pos (show s ≤ r by omega), add_comm]

/-- A block of steps carries the weighted sum on. -/
theorem W_add (k w : ℕ → ℝ) (s0 : ℝ) (p n : ℕ) :
    W fl il m0 k w s0 (p + n) = Real.exp (Mx fl il m0 p - Mx fl il m0 (p + n)) * W fl il m0 k w s0 p
      + ∑ s ∈ Finset.range n, Real.exp (A fl il (p + s) - Mx fl il m0 (p + n)) * (k (p + s) * w (p + s)) := by
  unfold W
  rw [Finset.sum_range_add, mul_add, ← add_assoc, ← mul_assoc, ← Real.exp_add, Finset.mul_sum]
  have e : Mx fl il m0 p - Mx fl il m0 (p + n) + (m0 - Mx fl il m0 p) = m0 - Mx fl il m0 (p + n) := by ring
  rw [e]
  refine congrArg (· + _) (congrArg (_ + ·) (Finset.sum_congr rfl fun s _ => ?_))
  have e' : Real.exp (A fl il s - Mx fl il m0 (p + n)) = Real.exp (Mx fl il m0 p - Mx fl il m0 (p + n)) * Real.exp (A fl il s - Mx fl il m0 p) := by
    rw [← Real.exp_add]
    congr 1
    ring
  rw [e']
  ring

/-- A finite sum of reals is a sum of extended reals. -/
theorem coe_sum {ι : Type} (s : Finset ι) (f : ι → ℝ) : ((∑ i ∈ s, f i : ℝ) : EReal) = ∑ i ∈ s, (f i : EReal) := by
  classical
  induction s using Finset.induction_on with
  | empty => rfl
  | insert i s h ih => rw [Finset.sum_insert h, Finset.sum_insert h, EReal.coe_add, ih]

/-- A sum over a block's rows up to row `r`, written over all of them. -/
theorem sum_upto (n r : ℕ) (hr : r < n) (f : ℕ → ℝ) : (∑ s : Fin n, if s.val ≤ r then f s.val else 0) = ∑ s ∈ Finset.range (r + 1), f s := by
  rw [Fin.sum_univ_eq_sum_range (fun s => if s ≤ r then f s else 0) n, ← Finset.sum_filter]
  refine Finset.sum_congr (Finset.ext fun s => ?_) fun _ _ => rfl
  rw [Finset.mem_filter, Finset.mem_range, Finset.mem_range]
  omega

end Cert.Mlstm

end
-- ==== Proof.MlstmData.lean ====
/- The recurrence's inputs as real numbers, and what the recurrence makes of them. -/
module

public import proofs.«01_k».proof.Proof.MlstmModel
public import Idealize.ShloMosaic.Lib.IdealHost

@[expose] public section

noncomputable section

open Idealize.ShloMosaic
open scoped BigOperators

namespace Cert.Mlstm

/-- The logarithm of the logistic function. -/
def lsig (x : ℝ) : ℝ := min x 0 - Real.log (1 + Real.exp (-|x|))

/-- The inputs: the projection `P`, the gates `G`, the biases `bi` and `bf`, and the incoming state `C`, `N`, `M`. -/
structure Data where
  P : ℕ → ℕ → ℝ
  G : ℕ → ℕ → ℝ
  bi : ℕ → ℝ
  bf : ℕ → ℝ
  C : ℕ → ℕ → ℕ → ℕ → ℝ
  N : ℕ → ℕ → ℕ → ℝ
  M : ℕ → ℕ → ℝ

namespace Data
variable (D : Data) (b h : ℕ)

/-- Sequence `b`, head `h`: the queries. -/
def q (s d : ℕ) : ℝ := D.P (2048 * b + s) (128 * h + d)
/-- The keys. -/
def k (s d : ℕ) : ℝ := D.P (2048 * b + s) (1024 + (128 * h + d))
/-- The values. -/
def v (s e : ℕ) : ℝ := D.P (2048 * b + s) (2048 + (256 * h + e))
/-- The input gate's logarithms. -/
def il (s : ℕ) : ℝ := D.G (2048 * b + s) h + D.bi h
/-- The forget gate's logarithms. -/
def fl (s : ℕ) : ℝ := lsig (D.G (2048 * b + s) (8 + h) + D.bf h)
/-- The scale on the keys. -/
def scale : ℝ := 11863283 / 134217728
/-- The incoming state: the matrix's columns, then the vector, both over the scale. -/
def s0 (d e : ℕ) : ℝ := (if e < 256 then D.C b h e d else D.N b h d) * scale⁻¹
/-- The sum of the forget gate's logarithms. -/
def f (n : ℕ) : ℝ := F (D.fl b h) n
/-- The running maximum. -/
def mx (n : ℕ) : ℝ := Mx (D.fl b h) (D.il b h) (D.M b h) n
/-- The state after `n` steps, without the scale: values in columns 0 to 255, then ones. -/
def S (d e n : ℕ) : ℝ := W (D.fl b h) (D.il b h) (D.M b h) (fun s => D.k b h s d) (fun s => if e < 256 then D.v b h s e else 1) (D.s0 b h d e) n
/-- Step `t`'s query against the state after it. -/
def X (t e : ℕ) : ℝ := ∑ d : Fin 128, D.q b h t d.val * D.S b h d.val e (t + 1)
/-- Step `t`'s denominator, without the scale. -/
def den (t : ℕ) : ℝ := max |D.X b h t 256| (Real.exp (-(D.f b h (t + 1) + D.mx b h (t + 1))) * scale⁻¹)
/-- The sum of the squares of step `t`'s 256 numerators. -/
def sq (t : ℕ) : ℝ := ∑ e : Fin 256, D.X b h t e.val * D.X b h t e.val

/-- The scale of the keys is positive. -/
theorem scale_pos : 0 < scale := by unfold scale; norm_num

/-- The denominator is positive: it is at least an exponential over the scale. -/
theorem den_pos (t : ℕ) : 0 < D.den b h t :=
  lt_of_lt_of_le (mul_pos (Real.exp_pos _) (inv_pos.mpr scale_pos)) (le_max_right _ _)

/-- The norm's small constant. -/
def eps : ℝ := 8796093 / 8796093022208
/-- Step `t`'s factor: one over the denominator, times the norm's factor. -/
def norm (t : ℕ) : ℝ := 1 / D.den b h t * (Real.sqrt (1 / D.den b h t * (1 / D.den b h t) * (D.sq b h t * (1 / 256)) + eps))⁻¹

/-- Before the first step the state is the incoming one. -/
theorem S_zero (d e : ℕ) : D.S b h d e 0 = D.s0 b h d e := by
  unfold S W
  show Real.exp (D.M b h - D.M b h) * _ + ∑ s ∈ Finset.range 0, _ = _
  rw [sub_self, Real.exp_zero, one_mul, Finset.sum_range_zero, add_zero]

/-- The arrays whose entries are the inputs. -/
structure Of (D : Data) (a0 : Fin 16896 → Fin 12288 → EReal) (a1 : Fin 16896 → Fin 128 → EReal) (a2 a3 : Fin 8 → EReal)
    (a5 : Fin 8 → Fin 8 → Fin 256 → Fin 128 → EReal) (a6 : Fin 8 → Fin 8 → Fin 128 → EReal) (a7 : Fin 8 → Fin 8 → EReal) : Prop where
  hP : ∀ i j, a0 i j = ((D.P i.val j.val : ℝ) : EReal)
  hG : ∀ i j, a1 i j = ((D.G i.val j.val : ℝ) : EReal)
  hbi : ∀ j, a2 j = ((D.bi j.val : ℝ) : EReal)
  hbf : ∀ j, a3 j = ((D.bf j.val : ℝ) : EReal)
  hC : ∀ b h e d, a5 b h e d = ((D.C b.val h.val e.val d.val : ℝ) : EReal)
  hN : ∀ b h d, a6 b h d = ((D.N b.val h.val d.val : ℝ) : EReal)
  hM : ∀ b h, a7 b h = ((D.M b.val h.val : ℝ) : EReal)

end Data

/-- The larger of two reals, as an extended real. -/
theorem coe_max' (a b : ℝ) : ((max a b : ℝ) : EReal) = max (a : EReal) (b : EReal) := EReal.coe_strictMono.monotone.map_max

/-- The smaller of two reals, as an extended real. -/
theorem coe_min' (a b : ℝ) : ((min a b : ℝ) : EReal) = min (a : EReal) (b : EReal) := EReal.coe_strictMono.monotone.map_min

/-- The size of a real, as an extended real. -/
theorem coe_abs' (a : ℝ) : ((|a| : ℝ) : EReal) = max (a : EReal) (-(a : EReal)) := by
  rw [abs_eq_max_neg, coe_max', EReal.coe_neg]

/-- One plus an exponential has a real logarithm. -/
theorem log1p_exp (x : ℝ) : Ideal.log1p (Ideal.exp (x : EReal)) = ((Real.log (1 + Real.exp x) : ℝ) : EReal) := by
  rw [Ideal.exp_coe]
  show Ideal.log (1 + ((Real.exp x : ℝ) : EReal)) = _
  rw [← EReal.coe_one, ← EReal.coe_add, Ideal.log_coe, if_neg (by have := Real.exp_pos x; linarith)]

end Cert.Mlstm

end
-- ==== Proof.MlstmConst.lean ====
/- Constants' words as real numbers, and a row of the result as a function of the recurrence's real numbers. -/
module

public import proofs.«01_k».proof.Proof.MlstmData
public import proofs.«01_k».proof.Proof.Gate

@[expose] public section

set_option maxRecDepth 16384

noncomputable section

open Idealize.ShloMosaic Idealize.ShloMosaic.TcCoe Idealize.SL.Sem
open scoped BigOperators

namespace Cert.Mlstm

/-- The binary32 word of one 256th. -/
theorem mean_eq : Ideal.ofBits .f32 0x3B800000#32 = ((1 / 256 : ℝ) : EReal) := by
  have h : ((0x3B800000#32 : BitVec 32).extractLsb' (8 + 23) 1 == 1#1) = false := by decide
  have h1 : ((0x3B800000#32 : BitVec 32).extractLsb' 23 8).toNat = 119 := by decide
  have h2 : ((0x3B800000#32 : BitVec 32).extractLsb' 0 23).toNat = 0 := by decide
  simp only [Ideal.ofBits, Ideal.ieee, h, h1, h2]
  norm_num

/-- The binary32 word of the norm's small constant. -/
theorem eps_eq : Ideal.ofBits .f32 0x358637BD#32 = ((Data.eps : ℝ) : EReal) := by
  have h : ((0x358637BD#32 : BitVec 32).extractLsb' (8 + 23) 1 == 1#1) = false := by decide
  have h1 : ((0x358637BD#32 : BitVec 32).extractLsb' 23 8).toNat = 107 := by decide
  have h2 : ((0x358637BD#32 : BitVec 32).extractLsb' 0 23).toNat = 407485 := by decide
  simp only [Ideal.ofBits, Ideal.ieee, h, h1, h2, Data.eps]
  norm_num

/-- The binary32 word of the keys' scale. -/
theorem scale_eq : Ideal.ofBits .f32 0x3DB504F3#32 = ((Data.scale : ℝ) : EReal) := by
  have h : ((0x3DB504F3#32 : BitVec 32).extractLsb' (8 + 23) 1 == 1#1) = false := by decide
  have h1 : ((0x3DB504F3#32 : BitVec 32).extractLsb' 23 8).toNat = 123 := by decide
  have h2 : ((0x3DB504F3#32 : BitVec 32).extractLsb' 0 23).toNat = 3474675 := by decide
  simp only [Ideal.ofBits, Ideal.ieee, h, h1, h2, Data.scale]
  norm_num

/-- The binary32 word of minus infinity. -/
theorem neginf_eq : Ideal.ofBits .f32 0xFF800000#32 = (⊥ : EReal) := by
  have h : ((0xFF800000#32 : BitVec 32).extractLsb' (8 + 23) 1 == 1#1) = true := by decide
  have h1 : ((0xFF800000#32 : BitVec 32).extractLsb' 23 8).toNat = 255 := by decide
  have h2 : ((0xFF800000#32 : BitVec 32).extractLsb' 0 23).toNat = 0 := by decide
  simp only [Ideal.ofBits, Ideal.ieee, h, h1, h2]
  norm_num

/-- The binary32 word of 256. -/
theorem width_eq : Ideal.ofBits .f32 0x43800000#32 = ((256 : ℝ) : EReal) := by
  have h : ((0x43800000#32 : BitVec 32).extractLsb' (8 + 23) 1 == 1#1) = false := by decide
  have h1 : ((0x43800000#32 : BitVec 32).extractLsb' 23 8).toNat = 135 := by decide
  have h2 : ((0x43800000#32 : BitVec 32).extractLsb' 0 23).toNat = 0 := by decide
  simp only [Ideal.ofBits, Ideal.ieee, h, h1, h2]
  norm_num

/-- One over the root of a positive real. -/
theorem rsqrt_pos (x : ℝ) (hx : 0 < x) : Ideal.rsqrt (x : EReal) = (((Real.sqrt x)⁻¹ : ℝ) : EReal) := by
  rw [Ideal.rsqrt_coe, if_neg (by linarith), if_neg (by linarith)]

namespace Data
variable (D : Data) (b h : ℕ)

/-- The columns after the values are equal. -/
theorem S_ones (d e n : ℕ) (he : ¬e < 256) : D.S b h d e n = D.S b h d 256 n := by
  unfold S s0
  simp only [if_neg he, if_neg (lt_irrefl 256)]

/-- So are a query's products with them. -/
theorem X_ones (t e : ℕ) (he : ¬e < 256) : D.X b h t e = D.X b h t 256 := by
  unfold X
  simp only [S_ones D b h _ e _ he]

/-- What the norm takes the root of is positive. -/
theorem root_pos (t : ℕ) : 0 < 1 / D.den b h t * (1 / D.den b h t) * (D.sq b h t * (1 / 256)) + eps := by
  have h1 : 0 ≤ D.sq b h t := Finset.sum_nonneg fun e _ => mul_self_nonneg _
  have h2 : 0 ≤ 1 / D.den b h t * (1 / D.den b h t) := mul_self_nonneg _
  have h3 : 0 < eps := by unfold eps; norm_num
  have : 0 ≤ 1 / D.den b h t * (1 / D.den b h t) * (D.sq b h t * (1 / 256)) := mul_nonneg h2 (mul_nonneg h1 (by norm_num))
  linarith

/-- An entry of the results: numerator times factor, times the norm's weight `g` and the gate of `o`. -/
def row (t e : ℕ) (g o : EReal) : EReal := ((D.X b h t e : ℝ) : EReal) * ((D.norm b h t : ℝ) : EReal) * (g * Gate.sig o)

/-- A step's numerator or denominator in the plain form: the weighted values of the steps so far, plus the incoming state carried on. -/
theorem X_eq (t n e : ℕ) (ht : t < n) (w c : ℕ → ℝ) (hw : ∀ s, (if e < 256 then D.v b h s e else 1) = w s) (hc : ∀ d, (if e < 256 then D.C b h e d else D.N b h d) = c d) :
    (∑ s : Fin n, w s.val * (if s.val ≤ t then (∑ d : Fin 128, D.k b h s.val d.val * scale * D.q b h t d.val) * Real.exp (A (D.fl b h) (D.il b h) s.val - D.mx b h (t + 1)) else 0))
      + Real.exp (D.M b h - D.mx b h (t + 1)) * ∑ d : Fin 128, D.q b h t d.val * c d.val = scale * D.X b h t e := by
  unfold X S W s0
  simp only [hw, hc, mul_ite, mul_zero]
  rw [sum_upto n t ht (fun s => w s * ((∑ d : Fin 128, D.k b h s d.val * scale * D.q b h t d.val) * Real.exp (A (D.fl b h) (D.il b h) s - D.mx b h (t + 1))))]
  simp only [mul_add, Finset.sum_add_distrib, Finset.mul_sum, Finset.sum_mul]
  rw [add_comm, Finset.sum_comm]
  have hs := scale_pos.ne'
  refine congrArg₂ (· + ·) (Finset.sum_congr rfl fun d _ => ?_) (Finset.sum_congr rfl fun d _ => Finset.sum_congr rfl fun s _ => ?_)
  · show _ = scale * (D.q b h t d.val * (Real.exp (D.M b h - D.mx b h (t + 1)) * (c d.val * scale⁻¹)))
    field_simp
  · show _ = scale * (D.q b h t d.val * (Real.exp (A (D.fl b h) (D.il b h) s - D.mx b h (t + 1)) * (D.k b h s d.val * w s)))
    ring

/-- The final state in the plain form. -/
theorem S_eq (d n e : ℕ) (w : ℕ → ℝ) (c : ℝ) (hw : ∀ s, (if e < 256 then D.v b h s e else 1) = w s) (hc : (if e < 256 then D.C b h e d else D.N b h d) = c) :
    Real.exp (D.M b h - D.mx b h n) * c + ∑ s : Fin n, Real.exp (A (D.fl b h) (D.il b h) s.val - D.mx b h n) * w s.val * (D.k b h s.val d * scale) = D.S b h d e n * scale := by
  unfold S W s0
  simp only [hw, hc]
  rw [Fin.sum_univ_eq_sum_range (fun s => Real.exp (A (D.fl b h) (D.il b h) s - D.mx b h n) * w s * (D.k b h s d * scale)) n, add_mul, Finset.sum_mul]
  have hs := scale_pos.ne'
  refine congrArg₂ (· + ·) ?_ (Finset.sum_congr rfl fun s _ => ?_)
  · show _ = Real.exp (D.M b h - D.mx b h n) * (c * scale⁻¹) * scale
    field_simp
  · show _ = Real.exp (A (D.fl b h) (D.il b h) s - D.mx b h n) * (D.k b h s d * w s) * scale
    ring

/-- The scaled denominator in the plain form. -/
theorem den_eq (t : ℕ) : max |scale * D.X b h t 256| (Real.exp (-(D.f b h (t + 1) + D.mx b h (t + 1)))) = scale * D.den b h t := by
  unfold den
  rw [mul_max_of_nonneg _ _ scale_pos.le, abs_mul, abs_of_pos scale_pos]
  refine congrArg (max _) ?_
  have hs := scale_pos.ne'
  field_simp

/-- The scale cancels between numerator and denominator. -/
theorem quot_eq (t e : ℕ) : scale * D.X b h t e * (1 / (scale * D.den b h t)) = D.X b h t e * (1 / D.den b h t) := by
  have hs := scale_pos.ne'
  have hd := (D.den_pos b h t).ne'
  field_simp

/-- The sum of the squares of the quotients. -/
theorem sq_eq (t : ℕ) : (∑ e : Fin 256, D.X b h t e.val * (1 / D.den b h t) * (D.X b h t e.val * (1 / D.den b h t))) = 1 / D.den b h t * (1 / D.den b h t) * D.sq b h t := by
  unfold sq
  rw [Finset.mul_sum]
  exact Finset.sum_congr rfl fun e _ => by ring

end Data

end Cert.Mlstm

end
-- ==== Proof.MlstmRows.lean ====
/- One head's share of a step, over the real numbers: what each array is when the inputs are the recurrence's. -/
module

public import proofs.«01_k».proof.Proof.MlstmStep
public import proofs.«01_k».proof.Proof.MlstmConst
public import Idealize.ShloMosaic.Lib.WordCmp

@[expose] public section

set_option maxRecDepth 16384

noncomputable section

open Idealize.ShloMosaic Idealize.ShloMosaic.TcCoe Idealize.SL.Sem
open scoped BigOperators

namespace Cert.KernelIdeal.Step

open Cert.KernelIdeal Cert.KernelIdeal.Gen Cert.Mlstm Idealize.ShloMosaic.WordCmp

set_option maxHeartbeats 400000

/-- The mask's word stands for minus infinity. -/
theorem mask_eq : (Named.named κ "mask" 0xF149F2CA#32 : Ideal .f32) = (⊥ : EReal) := rfl

/-- Comparing two small counters as 32-bit words compares them as numbers. -/
theorem le_word (a b : Nat) (ha : a < 256) (hb : b < 256) : IntOp.cmpi .sle (BitVec.ofNat 32 a) (BitVec.ofNat 32 b) = BitVec.ofBool (decide (a ≤ b)) :=
  cmpi_sle_ofNat (by omega) (by omega)

/-- The lower triangle of ones. -/
theorem tri (r s : Fin 256) : (FloatOps.sitofp FTy.f32 (BitVec.setWidth 32 (k0_pay41 (ix2 r s))) : Ideal .f32) = (((if s.val ≤ r.val then 1 else 0 : ℝ)) : EReal) := by
  have e : k0_pay41 (ix2 r s) = BitVec.ofBool (decide (s.val ≤ r.val)) := by
    pointwise [k0_pay41]
    exact le_word _ _ s.isLt r.isLt
  rw [e]
  by_cases h : s.val ≤ r.val
  · simp only [h, decide_true, if_true]
    show ((((BitVec.setWidth 32 1#1).toInt : ℤ) : ℝ) : EReal) = _
    norm_num
  · simp only [h, decide_false, if_false]
    show ((((BitVec.setWidth 32 0#1).toInt : ℤ) : ℝ) : EReal) = _
    norm_num

/-- What a head's inputs are: queries `q`, keys `k`, values `v`, gate logarithms `il` and `fl` of the 256 steps from step `p`, the carried state and the carried maximum. -/
structure Holds (h : Fin 8) (x0 x1 : FVec Ideal S256x1024 .bf16) (x2 : FVec Ideal S256x2048 .bf16) (x4 : FVec Ideal S256x128 .f32) (x5 : FVec Ideal S1x128 .f32)
    (st : FVec Ideal S1x128x384 .f32) (mm : FVec Ideal S1x128 .f32) (fl il : ℕ → ℝ) (m0 : ℝ) (q k v s0 : ℕ → ℕ → ℝ) (p : ℕ) : Prop where
  hq : ∀ (r : Fin 256) (d : Fin 128), x0 (ix2 r ⟨128 * h.val + d.val, by omega⟩) = ((q (p + r.val) d.val : ℝ) : EReal)
  hk : ∀ (r : Fin 256) (d : Fin 128), x1 (ix2 r ⟨128 * h.val + d.val, by omega⟩) = ((k (p + r.val) d.val : ℝ) : EReal)
  hv : ∀ (r : Fin 256) (e : Fin 256), x2 (ix2 r ⟨256 * h.val + e.val, by omega⟩) = ((v (p + r.val) e.val : ℝ) : EReal)
  hil : ∀ r : Fin 256, gl x4 x5 (ix2 r ⟨h.val, by omega⟩) = ((il (p + r.val) : ℝ) : EReal)
  hfl : ∀ r : Fin 256, gl x4 x5 (ix2 r ⟨h.val + 8, by omega⟩) = ((fl (p + r.val) : ℝ) : EReal)
  hst : ∀ (d : Fin 128) (e : Fin 384), st (ix3 0 d e) = ((W fl il m0 (fun s => k s d.val) (fun s => if e.val < 256 then v s e.val else 1) (s0 d.val e.val) p : ℝ) : EReal)
  hm : mm (ix2 0 ⟨h.val, by omega⟩) = ((F fl p + Mx fl il m0 p : ℝ) : EReal)

section
variable {h : Fin 8} {x0 x1 : FVec Ideal S256x1024 .bf16} {x2 : FVec Ideal S256x2048 .bf16} {x4 : FVec Ideal S256x128 .f32} {x5 : FVec Ideal S1x128 .f32}
  {st : FVec Ideal S1x128x384 .f32} {mm : FVec Ideal S1x128 .f32} {fl il : ℕ → ℝ} {m0 : ℝ} {q k v s0 : ℕ → ℕ → ℝ} {p : ℕ}
  (H : Holds h x0 x1 x2 x4 x5 st mm fl il m0 q k v s0 p)
include H

/-- The running sums within the block. -/
theorem b_real (r : Fin 256) : bAll x4 x5 (ix2 r ⟨h.val, by omega⟩) = ((F fl (p + (r.val + 1)) - F fl p : ℝ) : EReal) := by
  pointwise [bAll, k0_pay43]
  have hg : ∀ x : Fin 256, gl x4 x5 (ix2 x ⟨(h.val + 128 - 120) % 128, Nat.mod_lt _ (by decide)⟩) = ((fl (p + x.val) : ℝ) : EReal) := fun x => by
    rw [← H.hfl x]
    exact congrArg (gl x4 x5) (congrArg (ix2 x) (Fin.ext (by show (h.val + 128 - 120) % 128 = h.val + 8; omega)))
  simp only [tri, hg, ← EReal.coe_sub, sub_self, EReal.coe_zero, sub_zero, mul_zero, Finset.sum_const_zero, add_zero, ← EReal.coe_mul, ← coe_sum]
  refine congrArg _ ?_
  simp only [ite_mul, one_mul, zero_mul]
  rw [sum_upto 256 r.val r.isLt (fun s => fl (p + s)), F_add]
  ring

/-- The input gate less the running sum. -/
theorem a_real (r : Fin 256) : aAll x4 x5 (ix2 r ⟨h.val, by omega⟩) = ((A fl il (p + r.val) + F fl p : ℝ) : EReal) := by
  unfold aAll
  pointwise [k0_pay44]
  rw [show (256#32 : BitVec 32) = BitVec.ofNat 32 256 from rfl, cmpi_slt_ofNat (by omega) (by omega), select_ofBool, if_pos (by simp)]
  rw [H.hil, b_real H, ← EReal.coe_sub]
  refine congrArg _ ?_
  unfold A
  rw [add_assoc p]
  ring

/-- The running maxima. -/
theorem m_real (r : Fin 256) : mh h x4 x5 mm (ix2 r 0) = ((F fl p + Mx fl il m0 (p + (r.val + 1)) : ℝ) : EReal) := by
  have har : ∀ s : Fin 256, ar h x4 x5 (ix2 0 s) = ((A fl il (p + s.val) + F fl p : ℝ) : EReal) := fun s => by
    rw [← a_real H s]
    unfold ar aRows aAll
    pointwise [k0_pay46]
  rw [← max_row fl il m0 p 256 r.val r.isLt]
  unfold mh
  pointwise [bigM, k0_pay41]
  have hmm : mm (ix2 0 ⟨h.val, by omega⟩) = ((F fl p + Mx fl il m0 p : ℝ) : EReal) := H.hm
  rw [hmm, neginf_eq]
  refine congrArg (fun f => max (Finset.univ.fold max (⊥ : EReal) f) _) (funext fun s => ?_)
  rw [le_word _ _ s.isLt r.isLt, select_ofBool, mask_eq]
  have := har s
  simp only [decide_eq_true_eq]
  split
  · rw [← this]
    pointwise [ar]
  · rfl

end

end Cert.KernelIdeal.Step

end
-- ==== Proof.MlstmReal.lean ====
/- One head's share of a step, over the real numbers: the weights, the carried state, the products. -/
module

public import proofs.«01_k».proof.Proof.MlstmRows

@[expose] public section

set_option maxRecDepth 16384

noncomputable section

open Idealize.ShloMosaic Idealize.ShloMosaic.TcCoe Idealize.SL.Sem
open scoped BigOperators

namespace Cert.KernelIdeal.Step

open Cert.KernelIdeal Cert.KernelIdeal.Gen Cert.Mlstm Idealize.ShloMosaic.WordCmp

set_option maxHeartbeats 400000

section
variable {h : Fin 8} {x0 x1 : FVec Ideal S256x1024 .bf16} {x2 : FVec Ideal S256x2048 .bf16} {x4 : FVec Ideal S256x128 .f32} {x5 : FVec Ideal S1x128 .f32}
  {st : FVec Ideal S1x128x384 .f32} {mm : FVec Ideal S1x128 .f32} {fl il : ℕ → ℝ} {m0 : ℝ} {q k v s0 : ℕ → ℕ → ℝ} {p : ℕ}
  (H : Holds h x0 x1 x2 x4 x5 st mm fl il m0 q k v s0 p)
include H

/-- Head `h`'s row of gates less running sums. -/
theorem ar_real (s : Fin 256) : ar h x4 x5 (ix2 0 s) = ((A fl il (p + s.val) + F fl p : ℝ) : EReal) := by
  rw [← a_real H s]
  unfold ar aRows aAll
  pointwise [k0_pay46]

/-- The carried maximum, as a block of one. -/
theorem mp_real : mp h mm (ix2 0 0) = ((F fl p + Mx fl il m0 p : ℝ) : EReal) := by
  rw [← H.hm]
  unfold mp
  pointwise []

/-- The weights of the block's steps. -/
theorem dw_real (r s : Fin 256) : dw (ar h x4 x5) (mh h x4 x5 mm) (ix2 r s)
    = ((if s.val ≤ r.val then Real.exp (A fl il (p + s.val) - Mx fl il m0 (p + (r.val + 1))) else 0 : ℝ) : EReal) := by
  have hm := m_real H r
  have ha := ar_real H s
  generalize mh h x4 x5 mm = M at hm ⊢
  generalize ar h x4 x5 = a at ha ⊢
  unfold dw
  pointwise [k0_pay41]
  rw [hm, ha, le_word _ _ s.isLt r.isLt, select_ofBool, ← EReal.coe_sub]
  simp only [decide_eq_true_eq]
  split
  · rename_i hs
    have := A_le fl il m0 p (r.val + 1) s.val (by omega)
    rw [min_eq_left (by rw [← EReal.coe_zero]; exact EReal.coe_le_coe_iff.mpr (by linarith)), Ideal.exp_coe]
    refine congrArg (fun x : ℝ => (Real.exp x : EReal)) ?_
    ring
  · rfl

/-- The weight of the carried state. -/
theorem inter_real (r : Fin 256) : inter (mp h mm) (mh h x4 x5 mm) (ix2 r 0) = ((Real.exp (Mx fl il m0 p - Mx fl il m0 (p + (r.val + 1))) : ℝ) : EReal) := by
  have hm := m_real H r
  have hp := mp_real H
  generalize mh h x4 x5 mm = M at hm ⊢
  generalize mp h mm = a at hp ⊢
  unfold inter
  pointwise []
  rw [hm, hp, ← EReal.coe_sub, Ideal.exp_coe]
  refine congrArg (fun x : ℝ => (Real.exp x : EReal)) ?_
  ring

/-- The block's values, with ones after them. -/
theorem w_real (x : Fin 256) (e : Fin 384) :
    (if h_1 : e.val < 128 then x2 (ix2 x ⟨256 * h.val + e.val, by omega⟩)
      else if h_2 : e.val - 128 < 128 then x2 (ix2 x ⟨256 * h.val + 128 + (e.val - 128), by omega⟩) else (1 : EReal))
      = ((if e.val < 256 then v (p + x.val) e.val else 1 : ℝ) : EReal) := by
  split
  · rw [if_pos (by omega)]
    exact H.hv x ⟨e.val, by omega⟩
  · split
    · rw [if_pos (by omega), ← H.hv x ⟨e.val, by omega⟩]
      exact congrArg x2 (congrArg (ix2 x) (Fin.ext (by show 256 * h.val + 128 + (e.val - 128) = 256 * h.val + e.val; omega)))
    · rw [if_neg (by omega)]
      rfl

/-- A row's query against the state after that row. -/
theorem x_real (r : Fin 256) (e : Fin 384) : xh h x0 x1 x2 x4 x5 st mm (ix2 r e)
    = ((∑ d : Fin 128, q (p + r.val) d.val * W fl il m0 (fun s => k s d.val) (fun s => if e.val < 256 then v s e.val else 1) (s0 d.val e.val) (p + (r.val + 1)) : ℝ) : EReal) := by
  have hD := dw_real H r
  have hI := inter_real H r
  unfold xh k0_pay60 kh
  generalize dw (ar h x4 x5) (mh h x4 x5 mm) = D at hD ⊢
  generalize inter (mp h mm) (mh h x4 x5 mm) = I at hI ⊢
  pointwise [k0_pay59, k0_pay47, k0_pay45]
  simp only [hD, hI, H.hq, H.hk, H.hst, w_real H, ← EReal.coe_mul, ← coe_sum, ← EReal.coe_add]
  refine congrArg _ ?_
  simp only [W_add fl il m0 _ _ _ p (r.val + 1), mul_add, Finset.sum_add_distrib]
  rw [add_comm]
  refine congrArg₂ (· + ·) (Finset.sum_congr rfl fun d _ => by ring) ?_
  have e1 : ∀ x : Fin 256, (∑ d : Fin 128, q (p + r.val) d.val * k (p + x.val) d.val) * (if x.val ≤ r.val then Real.exp (A fl il (p + x.val) - Mx fl il m0 (p + (r.val + 1))) else 0) * (if e.val < 256 then v (p + x.val) e.val else 1)
      = if x.val ≤ r.val then (∑ d : Fin 128, q (p + r.val) d.val * k (p + x.val) d.val) * Real.exp (A fl il (p + x.val) - Mx fl il m0 (p + (r.val + 1))) * (if e.val < 256 then v (p + x.val) e.val else 1) else 0 := fun x => by
    by_cases hx : x.val ≤ r.val
    · simp only [if_pos hx]
    · simp only [if_neg hx, mul_zero, zero_mul]
  simp only [e1]
  rw [sum_upto 256 r.val r.isLt (fun x => (∑ d : Fin 128, q (p + r.val) d.val * k (p + x) d.val) * Real.exp (A fl il (p + x) - Mx fl il m0 (p + (r.val + 1))) * (if e.val < 256 then v (p + x) e.val else 1))]
  simp only [Finset.mul_sum, Finset.sum_mul]
  rw [Finset.sum_comm]
  refine Finset.sum_congr rfl fun d _ => Finset.sum_congr rfl fun s _ => ?_
  ring

/-- The state after the block. -/
theorem st_real (d : Fin 128) (e : Fin 384) : stNew h x1 x2 x4 x5 st mm (ix3 0 d e)
    = ((W fl il m0 (fun s => k s d.val) (fun s => if e.val < 256 then v s e.val else 1) (s0 d.val e.val) (p + 256) : ℝ) : EReal) := by
  have hm : mh h x4 x5 mm (ix2 255 0) = ((F fl p + Mx fl il m0 (p + 256) : ℝ) : EReal) := m_real H 255
  have ha := a_real H
  have hp : mm (ix2 0 ⟨h.val, by omega⟩) = ((F fl p + Mx fl il m0 p : ℝ) : EReal) := H.hm
  unfold stNew kh
  generalize mh h x4 x5 mm = M at hm ⊢
  generalize aAll x4 x5 = a at ha ⊢
  pointwise [k0_pay69, k0_pay59, k0_pay67, k0_pay68, k0_pay45, k0_pay66]
  have hE : ∀ x : Fin 256, Ideal.exp (a (ix2 x ⟨h.val, by omega⟩) - M (ix2 255 0)) = ((Real.exp (A fl il (p + x.val) - Mx fl il m0 (p + 256)) : ℝ) : EReal) := fun x => by
    rw [ha, hm, ← EReal.coe_sub, Ideal.exp_coe]
    refine congrArg (fun x : ℝ => (Real.exp x : EReal)) ?_
    ring
  have hI : Ideal.exp (mm (ix2 0 ⟨h.val, by omega⟩) - M (ix2 255 0)) = ((Real.exp (Mx fl il m0 p - Mx fl il m0 (p + 256)) : ℝ) : EReal) := by
    rw [hp, hm, ← EReal.coe_sub, Ideal.exp_coe]
    refine congrArg (fun x : ℝ => (Real.exp x : EReal)) ?_
    ring
  have hW : ∀ x : Fin 256, (if h_1 : e.val < 128 then x2 (ix2 x ⟨256 * h.val + e.val, by omega⟩) * ((Real.exp (A fl il (p + x.val) - Mx fl il m0 (p + 256)) : ℝ) : EReal)
      else if h_2 : e.val - 128 < 128 then x2 (ix2 x ⟨256 * h.val + 128 + (e.val - 128), by omega⟩) * ((Real.exp (A fl il (p + x.val) - Mx fl il m0 (p + 256)) : ℝ) : EReal)
      else ((Real.exp (A fl il (p + x.val) - Mx fl il m0 (p + 256)) : ℝ) : EReal))
      = ((((if e.val < 256 then v (p + x.val) e.val else 1) * Real.exp (A fl il (p + x.val) - Mx fl il m0 (p + 256)) : ℝ)) : EReal) := fun x => by
    rw [EReal.coe_mul, ← w_real H x e]
    split
    · rfl
    · split
      · rfl
      · rw [one_mul]
  simp only [hE, hI, hW, H.hk, H.hst, ← EReal.coe_mul, ← coe_sum, ← EReal.coe_add]
  refine congrArg _ ?_
  rw [W_add fl il m0 _ _ _ p 256, ← Fin.sum_univ_eq_sum_range (fun s => Real.exp (A fl il (p + s) - Mx fl il m0 (p + 256)) * (k (p + s) d.val * if e.val < 256 then v (p + s) e.val else 1)) 256]
  refine congrArg (_ + ·) (Finset.sum_congr rfl fun s _ => ?_)
  ring

/-- The carried maxima after the block. -/
theorem mput_real (pr : FVec Ideal S1x128 .f32) (l : Fin 128) : mPut h x4 x5 mm pr (ix2 0 l)
    = if l.val = h.val then ((F fl (p + 256) + Mx fl il m0 (p + 256) : ℝ) : EReal) else pr (ix2 0 l) := by
  have hm := m_real H 255
  have hb := b_real H 255
  unfold mPut
  generalize mh h x4 x5 mm = M at hm ⊢
  pointwise [k0_pay66]
  rw [cmpi_eq_ofNat (by omega) (by omega), select_ofBool]
  simp only [decide_eq_true_eq]
  split
  · refine (congrArg₂ (· + ·) hb hm).trans ?_
    rw [← EReal.coe_add]
    refine congrArg _ ?_
    show F fl (p + 256) - F fl p + (F fl p + Mx fl il m0 (p + 256)) = _
    ring
  · rfl

end

end Cert.KernelIdeal.Step

end
-- ==== Proof.MlstmPoint.lean ====
/-
The state that a point of the recurrence's call carries, after a point in the middle and at the end of a sequence: its tiles, one per head, put together.
-/
module
public import proofs.«01_k».proof.Proof.MlstmStep
public import Idealize.ShloMosaic.Lib.Pipeline.ReadBack
public import proofs.«01_k».proof.Proof.Gen.KernelIdeal.Launch
public import proofs.«01_k».proof.Proof.Gen.KernelIdeal.Points
public import proofs.«01_k».proof.Proof.Gen.KernelIdeal.Frame
@[expose] public section

set_option maxRecDepth 16384

noncomputable section

open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)
set_option maxHeartbeats 400000

/-- The first point's state before its step: the incoming state, scaled. -/
def init (x7 : FVec Ideal S1x1x8x256x128 .f32) (x8 : FVec Ideal S1x1x8x128 .f32) : FVec Ideal S8x128x384 .f32 := fun y =>
  if h : (y 2).val < 256 then x7 (ix5 0 0 (y 0) ⟨(y 2).val, h⟩ (y 1)) * Named.named κ "inv_scale" 0x413504F3#32 else x8 (ix4 0 0 (y 0) (y 1)) * Named.named κ "inv_scale" 0x413504F3#32

/-- The carried state after a step, from the state before. -/
def stStep (x1 : FVec Ideal S256x1024 .bf16) (x2 : FVec Ideal S256x2048 .bf16) (x4 : FVec Ideal S256x128 .f32) (x5 : FVec Ideal S1x128 .f32)
    (X : FVec Ideal S8x128x384 .f32) (mm : FVec Ideal S1x128 .f32) : FVec Ideal S8x128x384 .f32 := fun y =>
  Step.stNew (y 0) x1 x2 x4 x5 (fun z => X (ix3 (y 0) (z 1) (z 2))) mm (ix3 0 (y 1) (y 2))

/-- One stored slot of the carried state is that slot of `stStep`. -/
theorem piece_head (h : Fin 8) (x1 : FVec Ideal S256x1024 .bf16) (x2 : FVec Ideal S256x2048 .bf16) (x4 : FVec Ideal S256x128 .f32) (x5 : FVec Ideal S1x128 .f32)
    (X : FVec Ideal S8x128x384 .f32) (mm : FVec Ideal S1x128 .f32) (y : S8x128x384.Idx) (z : S1x128x384.Idx)
    (h0 : (y 0).val = h.val + (z 0).val) (h1 : (y 1).val = (z 1).val) (h2 : (y 2).val = (z 2).val)
    (st : FVec Ideal S1x128x384 .f32) (hst : ∀ z, st z = X (ix3 h (z 1) (z 2))) (p : FVec Ideal S1x128x384 .f32) (hp : p = Step.stNew h x1 x2 x4 x5 st mm) :
    p z = stStep x1 x2 x4 x5 X mm y := by
  obtain rfl : st = fun z => X (ix3 h (z 1) (z 2)) := funext hst
  have z0 : (z 0).val < 1 := (z 0).isLt
  have e0 : y 0 = h := Fin.ext (by omega)
  have ez : z = ix3 0 (y 1) (y 2) := by
    idx_ext <;> omega
  subst e0
  rw [hp, ez]
  rfl

/-- The same, the head being given as a number. -/
theorem piece_st (n : Nat) (hn : n < 8) (x1 : FVec Ideal S256x1024 .bf16) (x2 : FVec Ideal S256x2048 .bf16) (x4 : FVec Ideal S256x128 .f32) (x5 : FVec Ideal S1x128 .f32)
    (X : FVec Ideal S8x128x384 .f32) (mm : FVec Ideal S1x128 .f32) (y : S8x128x384.Idx) (z : S1x128x384.Idx)
    (h0 : (y 0).val = n + (z 0).val) (h1 : (y 1).val = (z 1).val) (h2 : (y 2).val = (z 2).val)
    (st : FVec Ideal S1x128x384 .f32) (hst : ∀ z, st z = X (ix3 ⟨n, hn⟩ (z 1) (z 2))) (p : FVec Ideal S1x128x384 .f32) (hp : p = Step.stNew ⟨n, hn⟩ x1 x2 x4 x5 st mm) :
    p z = stStep x1 x2 x4 x5 X mm y := piece_head ⟨n, hn⟩ x1 x2 x4 x5 X mm y z h0 h1 h2 st hst p hp

/-- One slot of the carried state, loaded. -/
theorem slot (X : FVec Ideal S8x128x384 .f32) (n : Nat) (hn : n < 8) (inb : ∀ a, (![n, 0, 0] : Fin 3 → Nat) a + (![1, 128, 384] : Fin 3 → Nat) a ≤ S8x128x384.size a) (z : S1x128x384.Idx) :
    (View.ld (Val := Elt Ideal) (e' := .f32) X (Rect.unit (s := S8x128x384) ![n, 0, 0] ![1, 128, 384] inb) : FVec Ideal S1x128x384 .f32) z = X (ix3 ⟨n, hn⟩ (z 1) (z 2)) := by
  have z0 : (z 0).val < 1 := (z 0).isLt
  refine View.ld_unit_apply_of (Val := Elt Ideal) (e := .f32) (S := S8x128x384) X ![n, 0, 0] ![1, 128, 384] inb z _ fun a => ?_
  match a with
  | ⟨0, _⟩ => show n = n + (z 0).val; omega
  | ⟨1, _⟩ => show (z 1).val = 0 + (z 1).val; omega
  | ⟨2, _⟩ => show (z 2).val = 0 + (z 2).val; omega

/-- The state after a point in the middle of a sequence: one step from the state and maxima before it. -/
theorem state_B (c : Dev nD) (t : Fin cfg0.N) (h1 : ¬t.val % 8 = 0) (h2 : ¬t.val % 8 = 7) : (outsAt0 m c t.val t.isLt).2.2.2.2.1
    = stStep (iblk m c 1 t) (iblk m c 2 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  funext y
  rw [outsAt0_B m c t h1 h2]
  frame_out
  simp only [read_unread_whole]
  canon_tiles y h
  all_goals first
    | refine piece_st _ (by decide) _ _ _ _ _ _ _ _ h0 h1 h2 ?_ ?_ _ ?_
    | refine piece_st 0 (by decide) _ _ _ _ _ _ _ _ (by omega) h1 h2 ?_ ?_ _ ?_
  all_goals try exact rfl
  all_goals exact slot _ _ _ _

/-- A head's part of the incoming state, transposed and scaled. -/
theorem init_C (x7 : FVec Ideal S1x1x8x256x128 .f32) (x8 : FVec Ideal S1x1x8x128 .f32) (n : Nat) (hn : n < 8)
    (inb : ∀ a, (![0, 0, n, 0, 0] : Fin 5 → Nat) a + (![1, 1, 1, 256, 128] : Fin 5 → Nat) a ≤ S1x1x8x256x128.size a) (y : S8x128x384.Idx) (z : S1x128x256.Idx)
    (h0 : (y 0).val = n + (z 0).val) (h1 : (y 1).val = (z 1).val) (h2 : (y 2).val = (z 2).val) (p : FVec Ideal S1x128x256 .f32)
    (hp : p = k0_pay5 (View.ld (Val := Elt Ideal) (e' := .f32) x7 (Rect.unit (s := S1x1x8x256x128) ![0, 0, n, 0, 0] ![1, 1, 1, 256, 128] inb))) : p z = init x7 x8 y := by
  have z0 : (z 0).val < 1 := (z 0).isLt
  have z2 : (z 2).val < 256 := (z 2).isLt
  subst hp
  rw [init, dif_pos (by omega)]
  pointwise [k0_pay5]
  refine congrArg (fun w => x7 w * _) ?_
  idx_ext <;> omega

/-- A head's part of the incoming normalizer, scaled, in each column. -/
theorem init_n (x7 : FVec Ideal S1x1x8x256x128 .f32) (x8 : FVec Ideal S1x1x8x128 .f32) (n : Nat) (hn : n < 8)
    (inb : ∀ a, (![0, 0, n, 0] : Fin 4 → Nat) a + (![1, 1, 1, 128] : Fin 4 → Nat) a ≤ S1x1x8x128.size a) (y : S8x128x384.Idx) (z : S1x128x128.Idx)
    (h0 : (y 0).val = n + (z 0).val) (h1 : (y 1).val = (z 1).val) (h2 : (y 2).val = 256 + (z 2).val) (p : FVec Ideal S1x128x128 .f32)
    (hp : p = k0_pay6 (View.ld (Val := Elt Ideal) (e' := .f32) x8 (Rect.unit (s := S1x1x8x128) ![0, 0, n, 0] ![1, 1, 1, 128] inb))) : p z = init x7 x8 y := by
  have z0 : (z 0).val < 1 := (z 0).isLt
  subst hp
  rw [init, dif_neg (by omega)]
  pointwise [k0_pay6]
  refine congrArg (fun w => x8 w * _) ?_
  idx_ext <;> omega

/-- A load of one slot of stored pieces, from what the pieces are. -/
theorem slot_of {κ' : Kind} {sp : Space} {sg : RefSig} (v : View sg κ' sp S8x128x384 .f32) (X : FVec Ideal S8x128x384 .f32) (n : Nat) (hn : n < 8) (inb : ∀ a, (![n, 0, 0] : Fin 3 → Nat) a + (![1, 128, 384] : Fin 3 → Nat) a ≤ S8x128x384.size a)
    (L : List (View.Piece (Elt Ideal) S8x128x384 .f32)) (h : ∀ w : S8x128x384.Idx, (w 0).val = n → View.canon L w = X w) (z : S1x128x384.Idx) :
    (View.readCov (Val := Elt Ideal) v L (Rect.unit (s := S8x128x384) ![n, 0, 0] ![1, 128, 384] inb).toLoadRect : FVec Ideal S1x128x384 .f32) z = X (ix3 ⟨n, hn⟩ (z 1) (z 2)) := by
  have z0 : (z 0).val < 1 := (z 0).isLt
  rw [View.readCov_eq_canon']
  refine (h _ ?_).trans (congrArg X ?_)
  · show n + 1 * (z 0).val = n; omega
  · refine funext fun a => Fin.ext ?_
    match a with
    | ⟨0, _⟩ => show n + 1 * (z 0).val = n; omega
    | ⟨1, _⟩ => show 0 + 1 * (z 1).val = (z 1).val; omega
    | ⟨2, _⟩ => show 0 + 1 * (z 2).val = (z 2).val; omega

/-- A store to another head's slot does not matter. -/
theorem skip_head (k n : Nat) (hk : k ≠ n) (w : S8x128x384.Idx) (hw : (w 0).val = n) (inb : ∀ a, (![k, 0, 0] : Fin 3 → Nat) a + (![1, 128, 384] : Fin 3 → Nat) a ≤ S8x128x384.size a)
    (p : FVec Ideal S1x128x384 .f32) (L : List (View.Piece (Elt Ideal) S8x128x384 .f32)) (a : Elt Ideal .f32) (h : View.canon L w = a) :
    View.canon ((⟨Rect.unit (s := S8x128x384) ![k, 0, 0] ![1, 128, 384] inb, p⟩ : View.Piece (Elt Ideal) S8x128x384 .f32) :: L) w = a := by
  refine (View.canon_cons_of_not_mem (Val := Elt Ideal) _ L fun hh => ?_).trans h
  obtain ⟨x, hx⟩ := (Rect.unit (s := S8x128x384) ![k, 0, 0] ![1, 128, 384] inb).exists_idx_of_mem hh
  have e := congrArg (fun w : S8x128x384.Idx => (w 0).val) hx
  have x0 : (x 0).val < 1 := (x 0).isLt
  change k + 1 * (x 0).val = (w 0).val at e
  omega

/-- The two stores that fill a head's slot with the incoming state, over stores that fill the others. -/
theorem pair_init (x7 : FVec Ideal S1x1x8x256x128 .f32) (x8 : FVec Ideal S1x1x8x128 .f32) (n : Nat) (hn : n < 8)
    (inb1 : ∀ a, (![n, 0, 256] : Fin 3 → Nat) a + (![1, 128, 128] : Fin 3 → Nat) a ≤ S8x128x384.size a)
    (inb2 : ∀ a, (![n, 0, 0] : Fin 3 → Nat) a + (![1, 128, 256] : Fin 3 → Nat) a ≤ S8x128x384.size a)
    (inb7 : ∀ a, (![0, 0, n, 0, 0] : Fin 5 → Nat) a + (![1, 1, 1, 256, 128] : Fin 5 → Nat) a ≤ S1x1x8x256x128.size a)
    (inb8 : ∀ a, (![0, 0, n, 0] : Fin 4 → Nat) a + (![1, 1, 1, 128] : Fin 4 → Nat) a ≤ S1x1x8x128.size a)
    (p : FVec Ideal S1x128x128 .f32) (q : FVec Ideal S1x128x256 .f32)
    (hp : p = k0_pay6 (View.ld (Val := Elt Ideal) (e' := .f32) x8 (Rect.unit (s := S1x1x8x128) ![0, 0, n, 0] ![1, 1, 1, 128] inb8)))
    (hq : q = k0_pay5 (View.ld (Val := Elt Ideal) (e' := .f32) x7 (Rect.unit (s := S1x1x8x256x128) ![0, 0, n, 0, 0] ![1, 1, 1, 256, 128] inb7)))
    (L : List (View.Piece (Elt Ideal) S8x128x384 .f32)) (w : S8x128x384.Idx) (h : (w 0).val ≠ n → View.canon L w = init x7 x8 w) :
    View.canon ((⟨(Rect.unit (s := S8x128x384) ![n, 0, 256] ![1, 128, 128] inb1), p⟩ : View.Piece (Elt Ideal) S8x128x384 .f32) :: (⟨(Rect.unit (s := S8x128x384) ![n, 0, 0] ![1, 128, 256] inb2), q⟩ : View.Piece (Elt Ideal) S8x128x384 .f32) :: L) w = init x7 x8 w := by
  have w2 : (w 2).val < 384 := (w 2).isLt
  by_cases m1 : w ∈ (Rect.unit (s := S8x128x384) ![n, 0, 256] ![1, 128, 128] inb1).set
  · obtain ⟨x, rfl⟩ := (Rect.unit (s := S8x128x384) ![n, 0, 256] ![1, 128, 128] inb1).exists_idx_of_mem m1
    refine (View.canon_cons_emb (Val := Elt Ideal) (e := .f32) (Rect.unit (s := S8x128x384) ![n, 0, 256] ![1, 128, 128] inb1) p _ x).trans ?_
    refine init_n x7 x8 n hn inb8 _ x ?_ ?_ ?_ p hp
    · show n + 1 * (x 0).val = n + (x 0).val; omega
    · show 0 + 1 * (x 1).val = (x 1).val; omega
    · show 256 + 1 * (x 2).val = 256 + (x 2).val; omega
  refine (View.canon_cons_of_not_mem (Val := Elt Ideal) (e := .f32) _ _ m1).trans ?_
  by_cases m2 : w ∈ (Rect.unit (s := S8x128x384) ![n, 0, 0] ![1, 128, 256] inb2).set
  · obtain ⟨x, rfl⟩ := (Rect.unit (s := S8x128x384) ![n, 0, 0] ![1, 128, 256] inb2).exists_idx_of_mem m2
    refine (View.canon_cons_emb (Val := Elt Ideal) (e := .f32) (Rect.unit (s := S8x128x384) ![n, 0, 0] ![1, 128, 256] inb2) q _ x).trans ?_
    refine init_C x7 x8 n hn inb7 _ x ?_ ?_ ?_ q hq
    · show n + 1 * (x 0).val = n + (x 0).val; omega
    · show 0 + 1 * (x 1).val = (x 1).val; omega
    · show 0 + 1 * (x 2).val = (x 2).val; omega
  refine (View.canon_cons_of_not_mem (Val := Elt Ideal) (e := .f32) _ _ m2).trans (h fun hw => ?_)
  by_cases h2 : (w 2).val < 256
  · refine m2 ?_
    have e : w = (Rect.unit (s := S8x128x384) ![n, 0, 0] ![1, 128, 256] inb2).idx (ix3 0 (w 1) ⟨(w 2).val, h2⟩ : S1x128x256.Idx) := by
      refine funext fun a => Fin.ext ?_
      match a with
      | ⟨0, _⟩ => show (w 0).val = n + 1 * 0; omega
      | ⟨1, _⟩ => show (w 1).val = 0 + 1 * (w 1).val; omega
      | ⟨2, _⟩ => show (w 2).val = 0 + 1 * (w 2).val; omega
    rw [e]
    exact (Rect.unit (s := S8x128x384) ![n, 0, 0] ![1, 128, 256] inb2).idx_mem _
  · refine m1 ?_
    have e : w = (Rect.unit (s := S8x128x384) ![n, 0, 256] ![1, 128, 128] inb1).idx (ix3 0 (w 1) ⟨(w 2).val - 256, by omega⟩ : S1x128x128.Idx) := by
      refine funext fun a => Fin.ext ?_
      match a with
      | ⟨0, _⟩ => show (w 0).val = n + 1 * 0; omega
      | ⟨1, _⟩ => show (w 1).val = 0 + 1 * (w 1).val; omega
      | ⟨2, _⟩ => show (w 2).val = 256 + 1 * ((w 2).val - 256); omega
    rw [e]
    exact (Rect.unit (s := S8x128x384) ![n, 0, 256] ![1, 128, 128] inb1).idx_mem _

/-- The sixteen stores that fill the carried state at the first point. -/
theorem filled (x7 : FVec Ideal S1x1x8x256x128 .f32) (x8 : FVec Ideal S1x1x8x128 .f32) (w : S8x128x384.Idx) :
    View.canon (Val := Elt Ideal) (s := S8x128x384) (e := .f32) [
      ⟨Rect.unit (s := S8x128x384) ![7, 0, 256] ![1, 128, 128] inb_S8x128x384_S1x128x128_7_0_256, k0_pay22 (View.ld (Val := Elt Ideal) (e' := .f32) x8 (Rect.unit (s := S1x1x8x128) ![0, 0, 7, 0] ![1, 1, 1, 128] inb_S1x1x8x128_S1x1x1x128_0_0_7_0))⟩,
      ⟨Rect.unit (s := S8x128x384) ![7, 0, 0] ![1, 128, 256] inb_S8x128x384_S1x128x256_7_0_0, k0_pay21 (View.ld (Val := Elt Ideal) (e' := .f32) x7 (Rect.unit (s := S1x1x8x256x128) ![0, 0, 7, 0, 0] ![1, 1, 1, 256, 128] inb_S1x1x8x256x128_S1x1x1x256x128_0_0_7_0_0))⟩,
      ⟨Rect.unit (s := S8x128x384) ![6, 0, 256] ![1, 128, 128] inb_S8x128x384_S1x128x128_6_0_256, k0_pay20 (View.ld (Val := Elt Ideal) (e' := .f32) x8 (Rect.unit (s := S1x1x8x128) ![0, 0, 6, 0] ![1, 1, 1, 128] inb_S1x1x8x128_S1x1x1x128_0_0_6_0))⟩,
      ⟨Rect.unit (s := S8x128x384) ![6, 0, 0] ![1, 128, 256] inb_S8x128x384_S1x128x256_6_0_0, k0_pay19 (View.ld (Val := Elt Ideal) (e' := .f32) x7 (Rect.unit (s := S1x1x8x256x128) ![0, 0, 6, 0, 0] ![1, 1, 1, 256, 128] inb_S1x1x8x256x128_S1x1x1x256x128_0_0_6_0_0))⟩,
      ⟨Rect.unit (s := S8x128x384) ![5, 0, 256] ![1, 128, 128] inb_S8x128x384_S1x128x128_5_0_256, k0_pay18 (View.ld (Val := Elt Ideal) (e' := .f32) x8 (Rect.unit (s := S1x1x8x128) ![0, 0, 5, 0] ![1, 1, 1, 128] inb_S1x1x8x128_S1x1x1x128_0_0_5_0))⟩,
      ⟨Rect.unit (s := S8x128x384) ![5, 0, 0] ![1, 128, 256] inb_S8x128x384_S1x128x256_5_0_0, k0_pay17 (View.ld (Val := Elt Ideal) (e' := .f32) x7 (Rect.unit (s := S1x1x8x256x128) ![0, 0, 5, 0, 0] ![1, 1, 1, 256, 128] inb_S1x1x8x256x128_S1x1x1x256x128_0_0_5_0_0))⟩,
      ⟨Rect.unit (s := S8x128x384) ![4, 0, 256] ![1, 128, 128] inb_S8x128x384_S1x128x128_4_0_256, k0_pay16 (k0_pay15 (View.ld (Val := Elt Ideal) (e' := .f32) x8 (Rect.unit (s := S1x1x8x128) ![0, 0, 4, 0] ![1, 1, 1, 128] inb_S1x1x8x128_S1x1x1x128_0_0_4_0)))⟩,
      ⟨Rect.unit (s := S8x128x384) ![4, 0, 0] ![1, 128, 256] inb_S8x128x384_S1x128x256_4_0_0, k0_pay14 (View.ld (Val := Elt Ideal) (e' := .f32) x7 (Rect.unit (s := S1x1x8x256x128) ![0, 0, 4, 0, 0] ![1, 1, 1, 256, 128] inb_S1x1x8x256x128_S1x1x1x256x128_0_0_4_0_0))⟩,
      ⟨Rect.unit (s := S8x128x384) ![3, 0, 256] ![1, 128, 128] inb_S8x128x384_S1x128x128_3_0_256, k0_pay13 (View.ld (Val := Elt Ideal) (e' := .f32) x8 (Rect.unit (s := S1x1x8x128) ![0, 0, 3, 0] ![1, 1, 1, 128] inb_S1x1x8x128_S1x1x1x128_0_0_3_0))⟩,
      ⟨Rect.unit (s := S8x128x384) ![3, 0, 0] ![1, 128, 256] inb_S8x128x384_S1x128x256_3_0_0, k0_pay12 (k0_pay11 (View.ld (Val := Elt Ideal) (e' := .f32) x7 (Rect.unit (s := S1x1x8x256x128) ![0, 0, 3, 0, 0] ![1, 1, 1, 256, 128] inb_S1x1x8x256x128_S1x1x1x256x128_0_0_3_0_0))) (Named.named κ "inv_scale" 0x413504F3#32)⟩,
      ⟨Rect.unit (s := S8x128x384) ![2, 0, 256] ![1, 128, 128] inb_S8x128x384_S1x128x128_2_0_256, k0_pay10 (View.ld (Val := Elt Ideal) (e' := .f32) x8 (Rect.unit (s := S1x1x8x128) ![0, 0, 2, 0] ![1, 1, 1, 128] inb_S1x1x8x128_S1x1x1x128_0_0_2_0))⟩,
      ⟨Rect.unit (s := S8x128x384) ![2, 0, 0] ![1, 128, 256] inb_S8x128x384_S1x128x256_2_0_0, k0_pay9 (View.ld (Val := Elt Ideal) (e' := .f32) x7 (Rect.unit (s := S1x1x8x256x128) ![0, 0, 2, 0, 0] ![1, 1, 1, 256, 128] inb_S1x1x8x256x128_S1x1x1x256x128_0_0_2_0_0))⟩,
      ⟨Rect.unit (s := S8x128x384) ![1, 0, 256] ![1, 128, 128] inb_S8x128x384_S1x128x128_1_0_256, k0_pay8 (View.ld (Val := Elt Ideal) (e' := .f32) x8 (Rect.unit (s := S1x1x8x128) ![0, 0, 1, 0] ![1, 1, 1, 128] inb_S1x1x8x128_S1x1x1x128_0_0_1_0))⟩,
      ⟨Rect.unit (s := S8x128x384) ![1, 0, 0] ![1, 128, 256] inb_S8x128x384_S1x128x256_1_0_0, k0_pay7 (View.ld (Val := Elt Ideal) (e' := .f32) x7 (Rect.unit (s := S1x1x8x256x128) ![0, 0, 1, 0, 0] ![1, 1, 1, 256, 128] inb_S1x1x8x256x128_S1x1x1x256x128_0_0_1_0_0))⟩,
      ⟨Rect.unit (s := S8x128x384) ![0, 0, 256] ![1, 128, 128] inb_S8x128x384_S1x128x128_0_0_256, k0_pay6 (View.ld (Val := Elt Ideal) (e' := .f32) x8 (Rect.unit (s := S1x1x8x128) ![0, 0, 0, 0] ![1, 1, 1, 128] inb_S1x1x8x128_S1x1x1x128_0_0_0_0))⟩,
      ⟨Rect.unit (s := S8x128x384) ![0, 0, 0] ![1, 128, 256] inb_S8x128x384_S1x128x256_0_0_0, k0_pay5 (View.ld (Val := Elt Ideal) (e' := .f32) x7 (Rect.unit (s := S1x1x8x256x128) ![0, 0, 0, 0, 0] ![1, 1, 1, 256, 128] inb_S1x1x8x256x128_S1x1x1x256x128_0_0_0_0_0))⟩] w = init x7 x8 w := by
  refine pair_init x7 x8 7 (by decide) _ _ _ _ _ _ rfl rfl _ w fun h7 => ?_
  refine pair_init x7 x8 6 (by decide) _ _ _ _ _ _ rfl rfl _ w fun h6 => ?_
  refine pair_init x7 x8 5 (by decide) _ _ _ _ _ _ rfl rfl _ w fun h5 => ?_
  refine pair_init x7 x8 4 (by decide) _ _ _ _ _ _ rfl rfl _ w fun h4 => ?_
  refine pair_init x7 x8 3 (by decide) _ _ _ _ _ _ rfl rfl _ w fun h3 => ?_
  refine pair_init x7 x8 2 (by decide) _ _ _ _ _ _ rfl rfl _ w fun h2 => ?_
  refine pair_init x7 x8 1 (by decide) _ _ _ _ _ _ rfl rfl _ w fun h1 => ?_
  refine pair_init x7 x8 0 (by decide) _ _ _ _ _ _ rfl rfl _ w fun h0 => ?_
  have w0 : (w 0).val < 8 := (w 0).isLt
  omega

/-- Stores below eight that hold an index do not matter at it. -/
theorem canon_eight (p0 p1 p2 p3 p4 p5 p6 p7 : View.Piece (Elt Ideal) S8x128x384 .f32) (L : List (View.Piece (Elt Ideal) S8x128x384 .f32)) (y : S8x128x384.Idx)
    (hc : ∃ p ∈ [p0, p1, p2, p3, p4, p5, p6, p7], y ∈ p.1.set) : View.canon (p0 :: p1 :: p2 :: p3 :: p4 :: p5 :: p6 :: p7 :: L) y = View.canon [p0, p1, p2, p3, p4, p5, p6, p7] y := by
  have H : ∀ A : List (View.Piece (Elt Ideal) S8x128x384 .f32), (∃ p ∈ A, y ∈ p.1.set) → View.canon (A ++ L) y = View.canon A y := by
    intro A
    induction A with
    | nil => intro ⟨p, hp, _⟩; exact absurd hp List.not_mem_nil
    | cons p A ih =>
      intro ⟨q, hq, hy⟩
      by_cases hm : y ∈ p.1.set
      · obtain ⟨x, rfl⟩ := p.1.exists_idx_of_mem hm
        exact (View.canon_cons_emb p.1 p.2 (A ++ L) x).trans (View.canon_cons_emb p.1 p.2 A x).symm
      · rcases List.mem_cons.mp hq with rfl | hq'
        · exact absurd hy hm
        · exact (View.canon_cons_of_not_mem p (A ++ L) hm).trans ((ih ⟨q, hq', hy⟩).trans (View.canon_cons_of_not_mem p A hm).symm)
  exact H _ hc

/-- The state after the last point of a sequence: one step from the state and maxima before it. -/
theorem state_C (c : Dev nD) (t : Fin cfg0.N) (h1 : ¬t.val % 8 = 0) (h2 : t.val % 8 = 7) : (outsAt0 m c t.val t.isLt).2.2.2.2.1
    = stStep (iblk m c 1 t) (iblk m c 2 t) (iblk m c 4 t) (iblk m c 5 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  funext y
  rw [outsAt0_C m c t h1 h2]
  frame_out
  simp only [read_unread_whole]
  canon_tiles y h
  all_goals first
    | refine piece_st _ (by decide) _ _ _ _ _ _ _ _ h0 h1 h2 ?_ ?_ _ ?_
    | refine piece_st 0 (by decide) _ _ _ _ _ _ _ _ (by omega) h1 h2 ?_ ?_ _ ?_
  all_goals try exact rfl
  all_goals exact slot _ _ _ _

end Cert.KernelIdeal.Value
end
-- ==== Proof.MlstmBlocks.lean ====
/-
The blocks of its arguments that each point of the recurrence's call reads, in terms of the arguments themselves.
-/
module
public import proofs.«01_k».proof.Proof.MlstmPoint
public import Idealize.ShloMosaic.Lib.Pointwise
public import proofs.«01_k».proof.Proof.Gen.KernelIdeal.Launch
public import proofs.«01_k».proof.Proof.Gen.KernelIdeal.Points
public import proofs.«01_k».proof.Proof.Gen.KernelIdeal.Frame
@[expose] public section
set_option maxRecDepth 16384
noncomputable section
open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)
/-- Every window's block index at every grid point. -/
theorem idx : ∀ t : Fin cfg0.N, win0_0.index t = ![t.val, 0]
    ∧ win0_1.index t = ![t.val, 1]
    ∧ win0_2.index t = ![t.val, 1]
    ∧ win0_3.index t = ![t.val, 2]
    ∧ win0_4.index t = ![t.val, 0]
    ∧ win0_5.index t = ![0, 0]
    ∧ win0_6.index t = ![0, 0]
    ∧ win0_7.index t = ![0, t.val / 8, 0, 0, 0]
    ∧ win0_8.index t = ![0, t.val / 8, 0, 0]
    ∧ win0_9.index t = ![0, t.val / 8, 0, 0]
    ∧ win0_10.index t = ![t.val, 0]
    ∧ win0_11.index t = ![t.val / 8, 0, 0, 0]
    ∧ win0_12.index t = ![t.val / 8, 0, 0]
    ∧ win0_13.index t = ![t.val / 8, 0, 0] :=
  (by decide +kernel : ∀ t : Fin grid0.N, _)

/-- The call has sixty-four points. -/
theorem t_lt (t : Fin cfg0.N) : t.val < 64 := t.isLt

/-- A point's block of queries. -/
theorem b0 (c : Dev nD) (t : Fin cfg0.N) (r : Fin 256) (j : Fin 1024) : iblk m c 0 t (ix2 r j) = m ((c : Thread nD τ).loc main_arg0) (ix2 ⟨256 * t.val + r.val, by have := t_lt t; omega⟩ ⟨j.val, by omega⟩) := by
  obtain ⟨e0, e1, e2, e3, e4, e5, e6, e7, e8, e9, e10, e11, e12, e13⟩ := idx t
  blk_ext [iblk, V, e0]

/-- A point's block of keys. -/
theorem b1 (c : Dev nD) (t : Fin cfg0.N) (r : Fin 256) (j : Fin 1024) : iblk m c 1 t (ix2 r j) = m ((c : Thread nD τ).loc main_arg0) (ix2 ⟨256 * t.val + r.val, by have := t_lt t; omega⟩ ⟨1024 + j.val, by omega⟩) := by
  obtain ⟨e0, e1, e2, e3, e4, e5, e6, e7, e8, e9, e10, e11, e12, e13⟩ := idx t
  blk_ext [iblk, V, e1]

/-- A point's block of values. -/
theorem b2 (c : Dev nD) (t : Fin cfg0.N) (r : Fin 256) (j : Fin 2048) : iblk m c 2 t (ix2 r j) = m ((c : Thread nD τ).loc main_arg0) (ix2 ⟨256 * t.val + r.val, by have := t_lt t; omega⟩ ⟨2048 + j.val, by omega⟩) := by
  obtain ⟨e0, e1, e2, e3, e4, e5, e6, e7, e8, e9, e10, e11, e12, e13⟩ := idx t
  blk_ext [iblk, V, e2]

/-- A point's block of output gates. -/
theorem b3 (c : Dev nD) (t : Fin cfg0.N) (r : Fin 256) (j : Fin 2048) : iblk m c 3 t (ix2 r j) = m ((c : Thread nD τ).loc main_arg0) (ix2 ⟨256 * t.val + r.val, by have := t_lt t; omega⟩ ⟨4096 + j.val, by omega⟩) := by
  obtain ⟨e0, e1, e2, e3, e4, e5, e6, e7, e8, e9, e10, e11, e12, e13⟩ := idx t
  blk_ext [iblk, V, e3]

/-- A point's block of input and forget gates. -/
theorem b4 (c : Dev nD) (t : Fin cfg0.N) (r : Fin 256) (j : Fin 128) : iblk m c 4 t (ix2 r j) = m ((c : Thread nD τ).loc main_arg1) (ix2 ⟨256 * t.val + r.val, by have := t_lt t; omega⟩ j) := by
  obtain ⟨e0, e1, e2, e3, e4, e5, e6, e7, e8, e9, e10, e11, e12, e13⟩ := idx t
  blk_ext [iblk, V, e4]

/-- The word zero, as a number. -/
theorem word_zero : (FloatOps.sitofp FTy.f32 (0#32 : BitVec 32) : Ideal .f32) = (0 : EReal) := by
  show ((((0#32 : BitVec 32).toInt : ℤ) : ℝ) : EReal) = 0
  norm_num

/-- Two rows of biases side by side, with zeros after them. -/
def biasPad (x2 x3 : FVec Ideal S2x8 .f32) : FVec Ideal S1x128 .f32 :=
  pad S1x128 ![0, 0] ![0, 112] ![0, 0] (broadcastInDim S1x16 ![1] bcast_S16_S1x16_1 (concatenate S16 0 [⟨S8, shapeCast S8 (extractStridedSlice S1x8 ![0, 0] x2 slices_S2x8_S1x8_0_0) shapeCasts_S1x8_S8⟩,
    ⟨S8, shapeCast S8 (extractStridedSlice S1x8 ![0, 0] x3 slices_S2x8_S1x8_0_0) shapeCasts_S1x8_S8⟩] concatenates_S8_S8_S16_d0)) (sitofp FTy.f32 (constantI S_ 32 0#32)) pads_S1x16_S1x128_000_01120 h_S_

/-- The padded biases, lane by lane: the input gates', the forget gates', then zeros. -/
theorem biasPad_at (x2 x3 : FVec Ideal S2x8 .f32) (l : Fin 128) : biasPad x2 x3 (ix2 0 l)
    = if h : l.val < 8 then x2 (ix2 0 ⟨l.val, h⟩) else if h : l.val - 8 < 8 then x3 (ix2 0 ⟨l.val - 8, h⟩) else (0 : EReal) := by
  unfold biasPad
  pointwise []
  rw [word_zero]
  by_cases h8 : l.val < 8
  · rw [dif_pos (show l.val < 16 by omega), dif_pos h8, dif_pos h8]
  · by_cases h16 : l.val < 16
    · rw [dif_pos h16, dif_neg h8, dif_neg h8, dif_pos (show l.val - 8 < 8 by omega)]
    · rw [dif_neg h16, dif_neg h8, dif_neg (show ¬l.val - 8 < 8 by omega)]

/-- The biases as the kernel gets them: the first layer's input gate's, then its forget gate's. -/
theorem made6 (c : Dev nD) (j : S1x128.Idx) : V m c main_v6 j = biasPad (m ((c : Thread nD τ).loc main_arg2)) (m ((c : Thread nD τ).loc main_arg3)) j := by
  simp only [V, hostOps0, hostOps0_1, hostOps0_2, hostOps0_3, hostOps0_4, List.flatten_cons, List.flatten_nil, List.cons_append, List.nil_append, List.append_nil]
  entry_read
  rfl

/-- The norm's factors as the kernel gets them. -/
theorem made9 (c : Dev nD) (j : S1x2048.Idx) : V m c main_v9 j = m ((c : Thread nD τ).loc main_arg4) (ix2 0 (j 1)) := by
  simp only [V, hostOps0, hostOps0_1, hostOps0_2, hostOps0_3, hostOps0_4, List.flatten_cons, List.flatten_nil, List.cons_append, List.nil_append, List.append_nil]
  entry_read
  pointwise []

/-- The matrix state as the kernel gets it. -/
theorem made10 (c : Dev nD) (j : S1x8x8x256x128.Idx) : V m c main_v10 j = m ((c : Thread nD τ).loc main_arg5) (ix4 (j 1) (j 2) (j 3) (j 4)) := by
  simp only [V, hostOps0, hostOps0_1, hostOps0_2, hostOps0_3, hostOps0_4, List.flatten_cons, List.flatten_nil, List.cons_append, List.nil_append, List.append_nil]
  entry_read
  pointwise []

/-- The vector state as the kernel gets it. -/
theorem made11 (c : Dev nD) (j : S1x8x8x128.Idx) : V m c main_v11 j = m ((c : Thread nD τ).loc main_arg6) (ix3 (j 1) (j 2) (j 3)) := by
  simp only [V, hostOps0, hostOps0_1, hostOps0_2, hostOps0_3, hostOps0_4, List.flatten_cons, List.flatten_nil, List.cons_append, List.nil_append, List.append_nil]
  entry_read
  pointwise []

/-- Rows of eight maxima with zeros after them. -/
def maxPad (x7 : FVec Ideal S8x8 .f32) : FVec Ideal S8x128 .f32 :=
  pad S8x128 ![0, 0] ![0, 120] ![0, 0] x7 (sitofp FTy.f32 (constantI S_ 32 0#32)) pads_S8x8_S8x128_000_01200 h_S_

/-- The padded maxima, lane by lane: the state's, then zeros. -/
theorem maxPad_at (x7 : FVec Ideal S8x8 .f32) (b : Fin 8) (l : Fin 128) : maxPad x7 (ix2 b l) = if h : l.val < 8 then x7 (ix2 b ⟨l.val, h⟩) else (0 : EReal) := by
  unfold maxPad
  pointwise []
  rw [word_zero]

/-- The incoming maxima as the kernel gets them: the state's, with zeros after them. -/
theorem made13 (c : Dev nD) (j : S1x8x1x128.Idx) : V m c main_v13 j = maxPad (m ((c : Thread nD τ).loc main_arg7)) (ix2 (j 1) (j 3)) := by
  simp only [V, hostOps0, hostOps0_1, hostOps0_2, hostOps0_3, hostOps0_4, List.flatten_cons, List.flatten_nil, List.cons_append, List.nil_append, List.append_nil]
  entry_read
  pointwise []
  rfl

/-- The block of biases. -/
theorem b5 (c : Dev nD) (t : Fin cfg0.N) (j : Fin 128) : iblk m c 5 t (ix2 0 j) = biasPad (m ((c : Thread nD τ).loc main_arg2)) (m ((c : Thread nD τ).loc main_arg3)) (ix2 0 j) := by
  obtain ⟨e0, e1, e2, e3, e4, e5, e6, e7, e8, e9, e10, e11, e12, e13⟩ := idx t
  refine (made6 m c _).trans ?_
  blk_ext [e5]

/-- The block of the norm's factors. -/
theorem b6 (c : Dev nD) (t : Fin cfg0.N) (j : Fin 2048) : iblk m c 6 t (ix2 0 j) = m ((c : Thread nD τ).loc main_arg4) (ix2 0 j) := by
  obtain ⟨e0, e1, e2, e3, e4, e5, e6, e7, e8, e9, e10, e11, e12, e13⟩ := idx t
  refine (made9 m c _).trans ?_
  blk_ext [e6]

/-- A point's block of the incoming matrix state. -/
theorem b7 (c : Dev nD) (t : Fin cfg0.N) (h : Fin 8) (e : Fin 256) (d : Fin 128) : iblk m c 7 t (ix5 0 0 h e d) = m ((c : Thread nD τ).loc main_arg5) (ix4 ⟨t.val / 8, by have := t_lt t; omega⟩ h e d) := by
  obtain ⟨e0, e1, e2, e3, e4, e5, e6, e7, e8, e9, e10, e11, e12, e13⟩ := idx t
  refine (made10 m c _).trans ?_
  blk_ext [e7]

/-- A point's block of the incoming vector state. -/
theorem b8 (c : Dev nD) (t : Fin cfg0.N) (h : Fin 8) (d : Fin 128) : iblk m c 8 t (ix4 0 0 h d) = m ((c : Thread nD τ).loc main_arg6) (ix3 ⟨t.val / 8, by have := t_lt t; omega⟩ h d) := by
  obtain ⟨e0, e1, e2, e3, e4, e5, e6, e7, e8, e9, e10, e11, e12, e13⟩ := idx t
  refine (made11 m c _).trans ?_
  blk_ext [e8]

/-- A point's block of incoming maxima. -/
theorem b9 (c : Dev nD) (t : Fin cfg0.N) (l : Fin 128) : iblk m c 9 t (ix4 0 0 0 l) = maxPad (m ((c : Thread nD τ).loc main_arg7)) (ix2 ⟨t.val / 8, by have := t_lt t; omega⟩ l) := by
  obtain ⟨e0, e1, e2, e3, e4, e5, e6, e7, e8, e9, e10, e11, e12, e13⟩ := idx t
  refine (made13 m c _).trans ?_
  blk_ext [e9]

end Cert.KernelIdeal.Value

end
-- ==== Proof.MlstmInv.lean ====
/- What the kernel carries from chunk to chunk is the recurrence's state and maximum. -/
module

public import proofs.«01_k».proof.Proof.MlstmReal
public import proofs.«01_k».proof.Proof.MlstmData
public import proofs.«01_k».proof.Proof.MlstmBlocks

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Mlstm Idealize.ShloMosaic.WordCmp

set_option maxHeartbeats 400000

/-- The first eight lanes of the gates. -/
theorem gl_lo (x4 : FVec Ideal S256x128 .f32) (x5 : FVec Ideal S1x128 .f32) (r : Fin 256) (l : Fin 128) (hl : l.val < 8) (g β : ℝ)
    (h4 : x4 (ix2 r l) = (g : EReal)) (h5 : x5 (ix2 0 l) = (β : EReal)) : Step.gl x4 x5 (ix2 r l) = ((g + β : ℝ) : EReal) := by
  unfold Step.gl k0_pay42
  pointwise []
  rw [show (256#32 : BitVec 32) = BitVec.ofNat 32 256 from rfl, show (8#32 : BitVec 32) = BitVec.ofNat 32 8 from rfl,
    cmpi_slt_ofNat (by omega) (by omega), cmpi_slt_ofNat (by omega) (by omega), select_ofBool, select_ofBool, if_pos (by simp), if_pos (by simpa using hl), h4, h5, EReal.coe_add]

/-- The next eight. -/
theorem gl_hi (x4 : FVec Ideal S256x128 .f32) (x5 : FVec Ideal S1x128 .f32) (r : Fin 256) (l : Fin 128) (hl : ¬l.val < 8) (g β : ℝ)
    (h4 : x4 (ix2 r l) = (g : EReal)) (h5 : x5 (ix2 0 l) = (β : EReal)) : Step.gl x4 x5 (ix2 r l) = ((lsig (g + β) : ℝ) : EReal) := by
  unfold Step.gl k0_pay42
  pointwise []
  rw [show (256#32 : BitVec 32) = BitVec.ofNat 32 256 from rfl, show (8#32 : BitVec 32) = BitVec.ofNat 32 8 from rfl,
    cmpi_slt_ofNat (by omega) (by omega), cmpi_slt_ofNat (by omega) (by omega), select_ofBool, select_ofBool, if_pos (by simp), if_neg (by simpa using hl), h4, h5, ← EReal.coe_add,
    show (FloatOps.absf (((g + β : ℝ) : EReal) : Ideal .f32) : Ideal .f32) = ((|g + β| : ℝ) : EReal) from (coe_abs' _).symm, zero_sub, ← EReal.coe_neg, log1p_exp, ← EReal.coe_zero, ← coe_min', ← EReal.coe_sub]
  rfl

variable (m : (ℓ : Loc nD τ sig) → Buf (Elt Ideal) ℓ) (D : Data)

/-- The argument arrays are the inputs `D`. -/
abbrev Args (c : Dev nD) : Prop :=
  D.Of (fun i j => m ((c : Thread nD τ).loc main_arg0) (ix2 i j)) (fun i j => m ((c : Thread nD τ).loc main_arg1) (ix2 i j))
    (fun j => m ((c : Thread nD τ).loc main_arg2) (ix2 0 j)) (fun j => m ((c : Thread nD τ).loc main_arg3) (ix2 0 j))
    (fun b h e d => m ((c : Thread nD τ).loc main_arg5) (ix4 b h e d)) (fun b h d => m ((c : Thread nD τ).loc main_arg6) (ix3 b h d))
    (fun b h => m ((c : Thread nD τ).loc main_arg7) (ix2 b h))

/-- The carried state and maxima, after `n` steps of sequence `b`. -/
structure Inv (b n : ℕ) (X : FVec Ideal S8x128x384 .f32) (mm : FVec Ideal S1x128 .f32) : Prop where
  st : ∀ (h : Fin 8) (d : Fin 128) (e : Fin 384), X (ix3 h d e) = ((D.S b h.val d.val e.val n : ℝ) : EReal)
  mx : ∀ h : Fin 8, mm (ix2 0 ⟨h.val, by omega⟩) = ((D.f b h.val n + D.mx b h.val n : ℝ) : EReal)
  pad : ∀ l : Fin 128, 8 ≤ l.val → mm (ix2 0 l) = (0 : EReal)

section
variable {m} {D} {c : Dev nD} (hD : Args m D c) (t : Fin cfg0.N) {X : FVec Ideal S8x128x384 .f32} {mm : FVec Ideal S1x128 .f32}
include hD

/-- A point's blocks hold the inputs of its chunk. -/
theorem holds (hI : Inv D (t.val / 8) (256 * (t.val % 8)) X mm) (h : Fin 8) :
    Step.Holds h (iblk m c 0 t) (iblk m c 1 t) (iblk m c 2 t) (iblk m c 4 t) (iblk m c 5 t) (fun z => X (ix3 h (z 1) (z 2))) mm
      (D.fl (t.val / 8) h.val) (D.il (t.val / 8) h.val) (D.M (t.val / 8) h.val) (D.q (t.val / 8) h.val) (D.k (t.val / 8) h.val) (D.v (t.val / 8) h.val) (D.s0 (t.val / 8) h.val) (256 * (t.val % 8)) where
  hq r d := by
    refine (b0 m c t r _).trans ((hD.hP _ _).trans (congrArg _ ?_))
    exact congrArg₂ D.P (by show 256 * t.val + r.val = _; omega) rfl
  hk r d := by
    refine (b1 m c t r _).trans ((hD.hP _ _).trans (congrArg _ ?_))
    exact congrArg₂ D.P (by show 256 * t.val + r.val = _; omega) rfl
  hv r e := by
    refine (b2 m c t r _).trans ((hD.hP _ _).trans (congrArg _ ?_))
    exact congrArg₂ D.P (by show 256 * t.val + r.val = _; omega) rfl
  hil r := by
    refine (gl_lo _ _ r _ h.isLt _ (D.bi h.val) ((b4 m c t r _).trans (hD.hG _ _)) ((b5 m c t _).trans ((biasPad_at _ _ _).trans ?_))).trans (congrArg _ ?_)
    · rw [dif_pos h.isLt]; exact hD.hbi h
    · exact congrArg₂ (· + ·) (congrArg₂ D.G (by show 256 * t.val + r.val = _; omega) rfl) rfl
  hfl r := by
    refine (gl_hi _ _ r _ (by show ¬h.val + 8 < 8; omega) _ (D.bf h.val) ((b4 m c t r _).trans (hD.hG _ _)) ((b5 m c t _).trans ((biasPad_at _ _ _).trans ?_))).trans (congrArg _ ?_)
    · rw [dif_neg (by show ¬h.val + 8 < 8; omega), dif_pos (by show h.val + 8 - 8 < 8; omega)]
      exact (congrArg (fun j => m ((c : Thread nD τ).loc main_arg3) (ix2 0 j)) (Fin.ext (by show h.val + 8 - 8 = h.val; omega))).trans (hD.hbf h)
    · exact congrArg lsig (congrArg₂ (· + ·) (congrArg₂ D.G (by show 256 * t.val + r.val = _; omega) (by show h.val + 8 = _; omega)) rfl)
  hst d e := hI.st h d e
  hm := hI.mx h

/-- A chunk carries the state and maxima on. -/
theorem inv_step (hI : Inv D (t.val / 8) (256 * (t.val % 8)) X mm) :
    Inv D (t.val / 8) (256 * (t.val % 8 + 1)) (stStep (iblk m c 1 t) (iblk m c 2 t) (iblk m c 4 t) (iblk m c 5 t) X mm) (Step.mNew (iblk m c 4 t) (iblk m c 5 t) mm) := by
  have H := holds hD t hI
  refine ⟨fun h d e => ?_, fun h => ?_, fun l hl => ?_⟩
  · exact Step.st_real (H h) d e
  · unfold Step.mNew
    rw [Step.mput_real (H 7), Step.mput_real (H 6), Step.mput_real (H 5), Step.mput_real (H 4), Step.mput_real (H 3), Step.mput_real (H 2), Step.mput_real (H 1), Step.mput_real (H 0)]
    match h with
    | 0 => rfl
    | 1 => rfl
    | 2 => rfl
    | 3 => rfl
    | 4 => rfl
    | 5 => rfl
    | 6 => rfl
    | 7 => rfl
  · unfold Step.mNew
    rw [Step.mput_real (H 7), Step.mput_real (H 6), Step.mput_real (H 5), Step.mput_real (H 4), Step.mput_real (H 3), Step.mput_real (H 2), Step.mput_real (H 1), Step.mput_real (H 0)]
    have hn : ∀ k : Fin 8, ¬l.val = k.val := fun k => by omega
    rw [if_neg (hn 7), if_neg (hn 6), if_neg (hn 5), if_neg (hn 4), if_neg (hn 3), if_neg (hn 2), if_neg (hn 1), if_neg (hn 0)]
    exact hI.pad l hl

/-- A sequence's first point starts from the incoming state. -/
theorem inv_init : Inv D (t.val / 8) 0 (init (iblk m c 7 t) (iblk m c 8 t)) (k0_pay40 (iblk m c 9 t)) := by
  have hk : (Named.named κ "inv_scale" 0x413504F3#32 : Ideal .f32) = ((Data.scale⁻¹ : ℝ) : EReal) := rfl
  have hp : ∀ l : Fin 128, k0_pay40 (F := Ideal) (iblk m c 9 t) (ix2 0 l) = maxPad (m ((c : Thread nD τ).loc main_arg7)) (ix2 ⟨t.val / 8, by have := t_lt t; omega⟩ l) := fun l => by
    rw [← b9]
    unfold k0_pay40
    pointwise []
  refine ⟨fun h d e => ?_, fun h => ?_, fun l hl => ?_⟩
  · rw [Data.S_zero]
    unfold init Data.s0
    rw [hk]
    by_cases he : e.val < 256
    · rw [if_pos he, EReal.coe_mul]
      refine (dif_pos he).trans (congrArg (· * _) ?_)
      exact (b7 m c t h ⟨e.val, he⟩ d).trans (hD.hC _ _ _ _)
    · rw [if_neg he, EReal.coe_mul]
      refine (dif_neg he).trans (congrArg (· * _) ?_)
      exact (b8 m c t h d).trans (hD.hN _ _ _)
  · rw [hp, maxPad_at, dif_pos h.isLt]
    refine (hD.hM _ _).trans (congrArg _ ?_)
    show _ = F _ 0 + D.M _ _
    unfold F
    rw [Finset.sum_range_zero, zero_add]
  · rw [hp, maxPad_at, dif_neg (by omega)]

end

end Cert.KernelIdeal.Value

end
-- ==== Proof.MlstmOut.lean ====
/-
The rows that a point of the recurrence's call writes, and the running maxima that it carries.
-/
module
public import proofs.«01_k».proof.Proof.MlstmPoint
public import Idealize.ShloMosaic.Lib.Pipeline.ReadBack
public import proofs.«01_k».proof.Proof.Gen.KernelIdeal.Launch
public import proofs.«01_k».proof.Proof.Gen.KernelIdeal.Points
public import proofs.«01_k».proof.Proof.Gen.KernelIdeal.Frame
@[expose] public section

set_option maxRecDepth 16384

noncomputable section

open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)
set_option maxHeartbeats 400000

/-- What the step stores of the block of result rows. -/
def outStep (x0 x1 : FVec Ideal S256x1024 .bf16) (x2 x3 : FVec Ideal S256x2048 .bf16) (x4 : FVec Ideal S256x128 .f32) (x5 : FVec Ideal S1x128 .f32) (x6 : FVec Ideal S1x2048 .f32)
    (X : FVec Ideal S8x128x384 .f32) (mm : FVec Ideal S1x128 .f32) : FVec Ideal S256x2048 .bf16 := fun y =>
  Step.outh ⟨(y 1).val / 256, by have := (y 1).isLt; change (y 1).val < 2048 at this; omega⟩ x0 x1 x2 x4 x5
    (fun z => X (ix3 ⟨(y 1).val / 256, by have := (y 1).isLt; change (y 1).val < 2048 at this; omega⟩ (z 1) (z 2))) mm ⟨(y 1).val % 256 / 128, by omega⟩
    (fun z => x3 (ix2 (z 0) (y 1))) (fun z => x6 (ix2 0 (y 1))) (ix2 (y 0) ⟨(y 1).val % 128, by omega⟩)

/-- An entry of a head's rows depends on the output gate at that entry and the norm's weight at its column alone. -/
theorem outh_congr (h : Fin 8) (x0 x1 : FVec Ideal S256x1024 .bf16) (x2 : FVec Ideal S256x2048 .bf16) (x4 : FVec Ideal S256x128 .f32) (x5 : FVec Ideal S1x128 .f32)
    (st : FVec Ideal S1x128x384 .f32) (mm : FVec Ideal S1x128 .f32) (j : Fin 2) (ot ot' : FVec Ideal S256x128 .bf16) (gt gt' : FVec Ideal S1x128 .f32) (z : S256x128.Idx)
    (ho : ot z = ot' z) (hg : gt (ix2 0 (z 1)) = gt' (ix2 0 (z 1))) : Step.outh h x0 x1 x2 x4 x5 st mm j ot gt z = Step.outh h x0 x1 x2 x4 x5 st mm j ot' gt' z := by
  unfold Step.outh k0_pay62
  pointwise []
  rw [ho, hg]

/-- One stored tile of the result rows is that tile of `outStep`. -/
theorem piece_out (h : Fin 8) (j : Fin 2) (o : Nat) (ho : o = 256 * h.val + 128 * j.val) {x0 x1 : FVec Ideal S256x1024 .bf16} {x2 x3 : FVec Ideal S256x2048 .bf16} {x4 : FVec Ideal S256x128 .f32} {x5 : FVec Ideal S1x128 .f32} {x6 : FVec Ideal S1x2048 .f32}
    {X : FVec Ideal S8x128x384 .f32} {mm : FVec Ideal S1x128 .f32} {y : S256x2048.Idx} {z : S256x128.Idx}
    (h0 : (y 0).val = (z 0).val) (h1 : (y 1).val = o + (z 1).val)
    {st : FVec Ideal S1x128x384 .f32} (hst : ∀ z, st z = X (ix3 h (z 1) (z 2)))
    (inb : ∀ a, (![0, o] : Fin 2 → Nat) a + (![256, 128] : Fin 2 → Nat) a ≤ S256x2048.size a) (inb' : ∀ a, (![0, o] : Fin 2 → Nat) a + (![1, 128] : Fin 2 → Nat) a ≤ S1x2048.size a)
    {p : FVec Ideal S256x128 .bf16} (hp : p = Step.outh h x0 x1 x2 x4 x5 st mm j (View.ld (Val := Elt Ideal) (e' := .bf16) x3 (Rect.unit (s := S256x2048) ![0, o] ![256, 128] inb)) (View.ld (Val := Elt Ideal) (e' := .f32) x6 (Rect.unit (s := S1x2048) ![0, o] ![1, 128] inb'))) :
    p z = outStep x0 x1 x2 x3 x4 x5 x6 X mm y := by
  obtain rfl : st = fun z => X (ix3 h (z 1) (z 2)) := funext hst
  have z1 : (z 1).val < 128 := (z 1).isLt
  have hh := h.isLt
  have hj := j.isLt
  have e0 : (⟨(y 1).val / 256, by omega⟩ : Fin 8) = h := Fin.ext (by show (y 1).val / 256 = _; omega)
  have e1 : (⟨(y 1).val % 256 / 128, by omega⟩ : Fin 2) = j := Fin.ext (by show (y 1).val % 256 / 128 = _; omega)
  have ez : (ix2 (y 0) ⟨(y 1).val % 128, by omega⟩ : S256x128.Idx) = z := by
    idx_ext <;> omega
  rw [hp]
  unfold outStep
  rw [e0, e1, ez]
  refine outh_congr _ _ _ _ _ _ _ _ _ _ _ _ _ _ ?_ ?_
  · refine View.ld_unit_apply_of (Val := Elt Ideal) (e := .bf16) (S := S256x2048) x3 ![0, o] ![256, 128] inb z _ fun a => ?_
    match a with
    | ⟨0, _⟩ => show (z 0).val = 0 + (z 0).val; omega
    | ⟨1, _⟩ => show (y 1).val = o + (z 1).val; omega
  · refine View.ld_unit_apply_of (Val := Elt Ideal) (e := .f32) (S := S1x2048) x6 ![0, o] ![1, 128] inb' (ix2 0 (z 1)) _ fun a => ?_
    match a with
    | ⟨0, _⟩ => rfl
    | ⟨1, _⟩ => show (y 1).val = o + (z 1).val; omega

/-- A cast to the same shape changes nothing. -/
theorem same (X : FVec Ideal S1x128 .f32) : shapeCast S1x128 X shapeCasts_S1x128_S1x128 = X := by
  funext y
  pointwise []

/-- The running maxima after a point in the middle of a sequence: one step from those before it. -/
theorem max_B (c : Dev nD) (t : Fin cfg0.N) (h1 : ¬t.val % 8 = 0) (h2 : ¬t.val % 8 = 7) : (outsAt0 m c t.val t.isLt).2.2.2.2.2
    = Step.mNew (iblk m c 4 t) (iblk m c 5 t) (outsAt0 m c (t.val - 1) (Nat.lt_of_le_of_lt (Nat.sub_le _ _) t.isLt)).2.2.2.2.2 := by
  rw [outsAt0_B m c t h1 h2]
  frame_out
  simp only [read_unread_whole]
  exact same _

/-- The running maxima after the first point of a sequence: one step from the incoming ones. -/
theorem max_A (c : Dev nD) (t : Fin cfg0.N) (h1 : t.val % 8 = 0) (h2 : ¬t.val % 8 = 7) : (outsAt0 m c t.val t.isLt).2.2.2.2.2
    = Step.mNew (iblk m c 4 t) (iblk m c 5 t) (k0_pay40 (iblk m c 9 t)) := by
  rw [outsAt0_A m c t h1 h2]
  frame_out
  exact same _

/-- The running maxima after the last point of a sequence: one step from those before it. -/
theorem max_C (c : Dev nD) (t : Fin cfg0.N) (h1 : ¬t.val % 8 = 0) (h2 : t.val % 8 = 7) : (outsAt0 m c t.val t.isLt).2.2.2.2.2
    = Step.mNew (iblk m c 4 t) (iblk m c 5 t) (outsAt0 m c (t.val - 1) (Nat.lt_of_le_of_lt (Nat.sub_le _ _) t.isLt)).2.2.2.2.2 := by
  rw [outsAt0_C m c t h1 h2]
  frame_out
  simp only [read_unread_whole]
  exact same _

set_option maxHeartbeats 1600000 in
/-- A point's block of result rows. -/
theorem out_B (c : Dev nD) (t : Fin cfg0.N) (h1 : ¬t.val % 8 = 0) (h2 : ¬t.val % 8 = 7) : (outsAt0 m c t.val t.isLt).1
    = outStep (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  funext y
  rw [outsAt0_B m c t h1 h2]
  frame_out
  simp only [read_unread_whole]
  canon_tiles y h
  · exact piece_out 7 1 1920 rfl h0 h1 (by exact slot _ _ _ _) (by decide) (by decide) rfl
  · exact piece_out 7 0 1792 rfl h0 h1 (by exact slot _ _ _ _) (by decide) (by decide) rfl
  · exact piece_out 6 1 1664 rfl h0 h1 (by exact slot _ _ _ _) (by decide) (by decide) rfl
  · exact piece_out 6 0 1536 rfl h0 h1 (by exact slot _ _ _ _) (by decide) (by decide) rfl
  · exact piece_out 5 1 1408 rfl h0 h1 (by exact slot _ _ _ _) (by decide) (by decide) rfl
  · exact piece_out 5 0 1280 rfl h0 h1 (by exact slot _ _ _ _) (by decide) (by decide) rfl
  · exact piece_out 4 1 1152 rfl h0 h1 (by exact slot _ _ _ _) (by decide) (by decide) rfl
  · exact piece_out 4 0 1024 rfl h0 h1 (by exact slot _ _ _ _) (by decide) (by decide) rfl
  · exact piece_out 3 1 896 rfl h0 h1 (by exact slot _ _ _ _) (by decide) (by decide) rfl
  · exact piece_out 3 0 768 rfl h0 h1 (by exact slot _ _ _ _) (by decide) (by decide) rfl
  · exact piece_out 2 1 640 rfl h0 h1 (by exact slot _ _ _ _) (by decide) (by decide) rfl
  · exact piece_out 2 0 512 rfl h0 h1 (by exact slot _ _ _ _) (by decide) (by decide) rfl
  · exact piece_out 1 1 384 rfl h0 h1 (by exact slot _ _ _ _) (by decide) (by decide) rfl
  · exact piece_out 1 0 256 rfl h0 h1 (by exact slot _ _ _ _) (by decide) (by decide) rfl
  · exact piece_out 0 1 128 rfl h0 h1 (by exact slot _ _ _ _) (by decide) (by decide) rfl
  · exact piece_out 0 0 0 rfl h0 (h1.trans (Nat.zero_add _).symm) (by exact slot _ _ _ _) (by decide) (by decide) rfl

set_option maxHeartbeats 1600000 in
/-- A point's block of result rows. -/
theorem out_C (c : Dev nD) (t : Fin cfg0.N) (h1 : ¬t.val % 8 = 0) (h2 : t.val % 8 = 7) : (outsAt0 m c t.val t.isLt).1
    = outStep (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by
  funext y
  rw [outsAt0_C m c t h1 h2]
  frame_out
  simp only [read_unread_whole]
  canon_tiles y h
  · exact piece_out 7 1 1920 rfl h0 h1 (by exact slot _ _ _ _) (by decide) (by decide) rfl
  · exact piece_out 7 0 1792 rfl h0 h1 (by exact slot _ _ _ _) (by decide) (by decide) rfl
  · exact piece_out 6 1 1664 rfl h0 h1 (by exact slot _ _ _ _) (by decide) (by decide) rfl
  · exact piece_out 6 0 1536 rfl h0 h1 (by exact slot _ _ _ _) (by decide) (by decide) rfl
  · exact piece_out 5 1 1408 rfl h0 h1 (by exact slot _ _ _ _) (by decide) (by decide) rfl
  · exact piece_out 5 0 1280 rfl h0 h1 (by exact slot _ _ _ _) (by decide) (by decide) rfl
  · exact piece_out 4 1 1152 rfl h0 h1 (by exact slot _ _ _ _) (by decide) (by decide) rfl
  · exact piece_out 4 0 1024 rfl h0 h1 (by exact slot _ _ _ _) (by decide) (by decide) rfl
  · exact piece_out 3 1 896 rfl h0 h1 (by exact slot _ _ _ _) (by decide) (by decide) rfl
  · exact piece_out 3 0 768 rfl h0 h1 (by exact slot _ _ _ _) (by decide) (by decide) rfl
  · exact piece_out 2 1 640 rfl h0 h1 (by exact slot _ _ _ _) (by decide) (by decide) rfl
  · exact piece_out 2 0 512 rfl h0 h1 (by exact slot _ _ _ _) (by decide) (by decide) rfl
  · exact piece_out 1 1 384 rfl h0 h1 (by exact slot _ _ _ _) (by decide) (by decide) rfl
  · exact piece_out 1 0 256 rfl h0 h1 (by exact slot _ _ _ _) (by decide) (by decide) rfl
  · exact piece_out 0 1 128 rfl h0 h1 (by exact slot _ _ _ _) (by decide) (by decide) rfl
  · exact piece_out 0 0 0 rfl h0 (h1.trans (Nat.zero_add _).symm) (by exact slot _ _ _ _) (by decide) (by decide) rfl

end Cert.KernelIdeal.Value
end
-- ==== Proof.MlstmRowsOut.lean ====
/- What the kernel stores of a row of results, over the real numbers. -/
module

public import proofs.«01_k».proof.Proof.MlstmInv
public import proofs.«01_k».proof.Proof.MlstmConst
public import proofs.«01_k».proof.Proof.MlstmOut

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Mlstm Idealize.ShloMosaic.WordCmp

set_option maxHeartbeats 400000

variable {m : (ℓ : Loc nD τ sig) → Buf (Elt Ideal) ℓ} {D : Data} {c : Dev nD} (hD : Args m D c) (t : Fin cfg0.N) {X : FVec Ideal S8x128x384 .f32} {mm : FVec Ideal S1x128 .f32}
include hD

/-- A row's products. -/
theorem xh_real (hI : Inv D (t.val / 8) (256 * (t.val % 8)) X mm) (h : Fin 8) (r : Fin 256) (e : Fin 384) :
    Step.xh h (iblk m c 0 t) (iblk m c 1 t) (iblk m c 2 t) (iblk m c 4 t) (iblk m c 5 t) (fun z => X (ix3 h (z 1) (z 2))) mm (ix2 r e)
      = ((D.X (t.val / 8) h.val (256 * (t.val % 8) + r.val) e.val : ℝ) : EReal) :=
  Step.x_real (holds hD t hI h) r e

set_option maxHeartbeats 1000000 in
/-- A row's factor. -/
theorem sc_real (hI : Inv D (t.val / 8) (256 * (t.val % 8)) X mm) (h : Fin 8) (r : Fin 256) (l : Fin 128) :
    Step.sc h (iblk m c 0 t) (iblk m c 1 t) (iblk m c 2 t) (iblk m c 4 t) (iblk m c 5 t) (fun z => X (ix3 h (z 1) (z 2))) mm (ix2 r l)
      = ((D.norm (t.val / 8) h.val (256 * (t.val % 8) + r.val) : ℝ) : EReal) := by
  have hx := xh_real hD t hI h r
  have hb := Step.b_real (holds hD t hI h) r
  have hm := Step.m_real (holds hD t hI h) r
  have hk : (Named.named κ "inv_scale" 0x413504F3#32 : Ideal .f32) = ((Data.scale⁻¹ : ℝ) : EReal) := rfl
  generalize hX' : Step.xh h (iblk m c 0 t) (iblk m c 1 t) (iblk m c 2 t) (iblk m c 4 t) (iblk m c 5 t) (fun z => X (ix3 h (z 1) (z 2))) mm = Y at hx
  unfold Step.sc k0_pay61
  unfold Step.xh at hX'
  rw [hX']
  clear hX'
  generalize Step.mh h (iblk m c 4 t) (iblk m c 5 t) mm = M at hm ⊢
  pointwise []
  have hden : max (FloatOps.absf (Y (ix2 r ⟨256 + l.val, by omega⟩)) : Ideal .f32) (Ideal.exp (0 - (Step.bAll (iblk m c 4 t) (iblk m c 5 t) (ix2 r ⟨h.val, by omega⟩) + M (ix2 r 0))) * Named.named κ "inv_scale" 0x413504F3#32)
      = ((D.den (t.val / 8) h.val (256 * (t.val % 8) + r.val) : ℝ) : EReal) := by
    rw [hb, hm, hk, hx, zero_sub, ← EReal.coe_add, ← EReal.coe_neg, Ideal.exp_coe, ← EReal.coe_mul,
      show (FloatOps.absf (((D.X (t.val / 8) h.val (256 * (t.val % 8) + r.val) (256 + l.val) : ℝ) : EReal) : Ideal .f32) : Ideal .f32) = ((|D.X (t.val / 8) h.val (256 * (t.val % 8) + r.val) (256 + l.val)| : ℝ) : EReal) from (coe_abs' _).symm,
      ← coe_max', Data.X_ones _ _ _ _ _ (by omega)]
    have e : ∀ a b c : ℝ, a - b + (b + c) = a + c := fun a b c => by ring
    rw [e]
    rfl
  rw [hden, mean_eq, eps_eq, Ideal.div_coe (Data.den_pos _ _ _ _).ne', one_mul]
  simp only [hx, ← EReal.coe_mul, ← coe_sum]
  have hr := rsqrt_pos _ (Data.root_pos D (t.val / 8) h.val (256 * (t.val % 8) + r.val))
  unfold Data.sq at hr
  rw [← EReal.coe_add, hr, ← EReal.coe_mul]
  rfl

/-- A row of results. -/
theorem out_real (hI : Inv D (t.val / 8) (256 * (t.val % 8)) X mm) (r : Fin 256) (col : Fin 2048) :
    outStep (iblk m c 0 t) (iblk m c 1 t) (iblk m c 2 t) (iblk m c 3 t) (iblk m c 4 t) (iblk m c 5 t) (iblk m c 6 t) X mm (ix2 r col)
      = D.row (t.val / 8) (col.val / 256) (256 * (t.val % 8) + r.val) (col.val % 256) (m ((c : Thread nD τ).loc main_arg4) (ix2 0 col))
        (m ((c : Thread nD τ).loc main_arg0) (ix2 ⟨256 * t.val + r.val, by have := t_lt t; omega⟩ ⟨4096 + col.val, by omega⟩)) := by
  unfold outStep
  have hx := xh_real hD t hI ⟨col.val / 256, by omega⟩ r
  have hs := sc_real hD t hI ⟨col.val / 256, by omega⟩ r
  show Step.outh ⟨col.val / 256, _⟩ _ _ _ _ _ _ _ ⟨col.val % 256 / 128, _⟩ (fun z => iblk m c 3 t (ix2 (z 0) col)) (fun z => iblk m c 6 t (ix2 0 col)) (ix2 r ⟨col.val % 128, _⟩) = _
  unfold Step.outh
  pointwise [k0_pay62, k0_pay63]
  rw [b3, b6, Gate.half_eq, Gate.gate_eq]
  refine congrArg₂ (· * ·) (congrArg₂ (· * ·) ((hx ⟨128 * (col.val % 256 / 128) + col.val % 128, by omega⟩).trans (congrArg _ (congrArg _ ?_))) (hs _)) rfl
  show 128 * (col.val % 256 / 128) + col.val % 128 = _
  omega

end Cert.KernelIdeal.Value

end
-- ==== Proof.MlstmFirst.lean ====
/-
The state that the recurrence's call carries after the first point of a sequence.
-/
module
public import proofs.«01_k».proof.Proof.MlstmPoint
public import Idealize.ShloMosaic.Lib.Pipeline.ReadBack
public import proofs.«01_k».proof.Proof.Gen.KernelIdeal.Launch
public import proofs.«01_k».proof.Proof.Gen.KernelIdeal.Points
public import proofs.«01_k».proof.Proof.Gen.KernelIdeal.Frame
@[expose] public section

set_option maxRecDepth 16384

noncomputable section

open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)
set_option maxHeartbeats 400000

set_option maxHeartbeats 1600000 in
/-- The state after the first point of a sequence: one step from the incoming state and maxima. -/
theorem state_A (c : Dev nD) (t : Fin cfg0.N) (h1 : t.val % 8 = 0) (h2 : ¬t.val % 8 = 7) : (outsAt0 m c t.val t.isLt).2.2.2.2.1
    = stStep (iblk m c 1 t) (iblk m c 2 t) (iblk m c 4 t) (iblk m c 5 t) (init (iblk m c 7 t) (iblk m c 8 t)) (k0_pay40 (iblk m c 9 t)) := by
  funext y
  rw [outsAt0_A m c t h1 h2]
  frame_out
  refine (canon_eight _ _ _ _ _ _ _ _ _ y (View.cover_of_tiled_head _ _ _ (by rfl) y)).trans ?_
  canon_tiles y h
  all_goals first
    | refine piece_st _ (by decide) _ _ _ _ _ _ _ _ h0 h1 h2 ?_ ?_ _ ?_
    | refine piece_st 0 (by decide) _ _ _ _ _ _ _ _ (by omega) h1 h2 ?_ ?_ _ ?_
  all_goals try exact rfl
  · refine slot_of _ _ 7 (by decide) _ _ fun w hw => ?_
    iterate 7 refine skip_head _ 7 (by decide) w hw _ _ _ _ ?_
    exact filled _ _ w
  · refine slot_of _ _ 6 (by decide) _ _ fun w hw => ?_
    iterate 6 refine skip_head _ 6 (by decide) w hw _ _ _ _ ?_
    exact filled _ _ w
  · refine slot_of _ _ 5 (by decide) _ _ fun w hw => ?_
    iterate 5 refine skip_head _ 5 (by decide) w hw _ _ _ _ ?_
    exact filled _ _ w
  · refine slot_of _ _ 4 (by decide) _ _ fun w hw => ?_
    iterate 4 refine skip_head _ 4 (by decide) w hw _ _ _ _ ?_
    exact filled _ _ w
  · refine slot_of _ _ 3 (by decide) _ _ fun w hw => ?_
    iterate 3 refine skip_head _ 3 (by decide) w hw _ _ _ _ ?_
    exact filled _ _ w
  · refine slot_of _ _ 2 (by decide) _ _ fun w hw => ?_
    iterate 2 refine skip_head _ 2 (by decide) w hw _ _ _ _ ?_
    exact filled _ _ w
  · refine slot_of _ _ 1 (by decide) _ _ fun w hw => ?_
    iterate 1 refine skip_head _ 1 (by decide) w hw _ _ _ _ ?_
    exact filled _ _ w
  · refine slot_of _ _ 0 (by decide) _ _ fun w hw => ?_
    exact filled _ _ w
end Cert.KernelIdeal.Value
end
-- ==== Proof.MlstmOutFirst.lean ====
/-
The rows that the first point of a sequence writes.
-/
module
public import proofs.«01_k».proof.Proof.MlstmOut
public import Idealize.ShloMosaic.Lib.Pipeline.ReadBack
public import proofs.«01_k».proof.Proof.Gen.KernelIdeal.Launch
public import proofs.«01_k».proof.Proof.Gen.KernelIdeal.Points
public import proofs.«01_k».proof.Proof.Gen.KernelIdeal.Frame
@[expose] public section

set_option maxRecDepth 16384

noncomputable section

open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)
set_option maxHeartbeats 400000

set_option maxHeartbeats 1600000 in
/-- A point's block of result rows. -/
theorem out_A (c : Dev nD) (t : Fin cfg0.N) (h1 : t.val % 8 = 0) (h2 : ¬t.val % 8 = 7) : (outsAt0 m c t.val t.isLt).1
    = outStep (iblk m c 0 t) (iblk m c 1 t) (iblk m c 2 t) (iblk m c 3 t) (iblk m c 4 t) (iblk m c 5 t) (iblk m c 6 t) (init (iblk m c 7 t) (iblk m c 8 t)) (k0_pay40 (iblk m c 9 t)) := by
  funext y
  rw [outsAt0_A m c t h1 h2]
  frame_out
  canon_tiles y h
  · refine piece_out 7 1 1920 rfl h0 h1 ?_ (by decide) (by decide) rfl
    exact slot_of _ _ 7 (by decide) _ _ fun w hw => by
      iterate 7 refine skip_head _ 7 (by decide) w hw _ _ _ _ ?_
      exact filled _ _ w
  · refine piece_out 7 0 1792 rfl h0 h1 ?_ (by decide) (by decide) rfl
    exact slot_of _ _ 7 (by decide) _ _ fun w hw => by
      iterate 7 refine skip_head _ 7 (by decide) w hw _ _ _ _ ?_
      exact filled _ _ w
  · refine piece_out 6 1 1664 rfl h0 h1 ?_ (by decide) (by decide) rfl
    exact slot_of _ _ 6 (by decide) _ _ fun w hw => by
      iterate 6 refine skip_head _ 6 (by decide) w hw _ _ _ _ ?_
      exact filled _ _ w
  · refine piece_out 6 0 1536 rfl h0 h1 ?_ (by decide) (by decide) rfl
    exact slot_of _ _ 6 (by decide) _ _ fun w hw => by
      iterate 6 refine skip_head _ 6 (by decide) w hw _ _ _ _ ?_
      exact filled _ _ w
  · refine piece_out 5 1 1408 rfl h0 h1 ?_ (by decide) (by decide) rfl
    exact slot_of _ _ 5 (by decide) _ _ fun w hw => by
      iterate 5 refine skip_head _ 5 (by decide) w hw _ _ _ _ ?_
      exact filled _ _ w
  · refine piece_out 5 0 1280 rfl h0 h1 ?_ (by decide) (by decide) rfl
    exact slot_of _ _ 5 (by decide) _ _ fun w hw => by
      iterate 5 refine skip_head _ 5 (by decide) w hw _ _ _ _ ?_
      exact filled _ _ w
  · refine piece_out 4 1 1152 rfl h0 h1 ?_ (by decide) (by decide) rfl
    exact slot_of _ _ 4 (by decide) _ _ fun w hw => by
      iterate 4 refine skip_head _ 4 (by decide) w hw _ _ _ _ ?_
      exact filled _ _ w
  · refine piece_out 4 0 1024 rfl h0 h1 ?_ (by decide) (by decide) rfl
    exact slot_of _ _ 4 (by decide) _ _ fun w hw => by
      iterate 4 refine skip_head _ 4 (by decide) w hw _ _ _ _ ?_
      exact filled _ _ w
  · refine piece_out 3 1 896 rfl h0 h1 ?_ (by decide) (by decide) rfl
    exact slot_of _ _ 3 (by decide) _ _ fun w hw => by
      iterate 3 refine skip_head _ 3 (by decide) w hw _ _ _ _ ?_
      exact filled _ _ w
  · refine piece_out 3 0 768 rfl h0 h1 ?_ (by decide) (by decide) rfl
    exact slot_of _ _ 3 (by decide) _ _ fun w hw => by
      iterate 3 refine skip_head _ 3 (by decide) w hw _ _ _ _ ?_
      exact filled _ _ w
  · refine piece_out 2 1 640 rfl h0 h1 ?_ (by decide) (by decide) rfl
    exact slot_of _ _ 2 (by decide) _ _ fun w hw => by
      iterate 2 refine skip_head _ 2 (by decide) w hw _ _ _ _ ?_
      exact filled _ _ w
  · refine piece_out 2 0 512 rfl h0 h1 ?_ (by decide) (by decide) rfl
    exact slot_of _ _ 2 (by decide) _ _ fun w hw => by
      iterate 2 refine skip_head _ 2 (by decide) w hw _ _ _ _ ?_
      exact filled _ _ w
  · refine piece_out 1 1 384 rfl h0 h1 ?_ (by decide) (by decide) rfl
    exact slot_of _ _ 1 (by decide) _ _ fun w hw => by
      iterate 1 refine skip_head _ 1 (by decide) w hw _ _ _ _ ?_
      exact filled _ _ w
  · refine piece_out 1 0 256 rfl h0 h1 ?_ (by decide) (by decide) rfl
    exact slot_of _ _ 1 (by decide) _ _ fun w hw => by
      iterate 1 refine skip_head _ 1 (by decide) w hw _ _ _ _ ?_
      exact filled _ _ w
  · exact piece_out 0 1 128 rfl h0 h1 (slot_of _ _ 0 (by decide) _ _ fun w _ => filled _ _ w) (by decide) (by decide) rfl
  · exact piece_out 0 0 0 rfl h0 (h1.trans (Nat.zero_add _).symm) (slot_of _ _ 0 (by decide) _ _ fun w _ => filled _ _ w) (by decide) (by decide) rfl

end Cert.KernelIdeal.Value
end
-- ==== Proof.MlstmHanded.lean ====
/-
What the last point of a sequence hands back: the state, its norm vector and the running maxima.
-/
module
public import proofs.«01_k».proof.Proof.MlstmPoint
public import Idealize.ShloMosaic.Lib.Pipeline.ReadBack
public import proofs.«01_k».proof.Proof.Gen.KernelIdeal.Launch
public import proofs.«01_k».proof.Proof.Gen.KernelIdeal.Points
public import proofs.«01_k».proof.Proof.Gen.KernelIdeal.Frame
@[expose] public section

set_option maxRecDepth 16384

noncomputable section

open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)
set_option maxHeartbeats 400000

/-- The matrix state handed back: transposed and scaled. -/
def finC (X : FVec Ideal S8x128x384 .f32) : FVec Ideal S1x8x256x128 .f32 := fun y =>
  X (ix3 (y 1) (y 3) ⟨(y 2).val, by have := (y 2).isLt; change (y 2).val < 256 at this; omega⟩) * Ideal.ofBits .f32 0x3DB504F3#32

/-- The vector state handed back: one of the equal columns, scaled. -/
def finN (X : FVec Ideal S8x128x384 .f32) : FVec Ideal S1x8x128 .f32 := fun y =>
  X (ix3 (y 1) (y 2) ⟨256, by omega⟩) * Ideal.ofBits .f32 0x3DB504F3#32

/-- The value columns of a slot of the carried state, loaded after the stores. -/
theorem part_C {κ' : Kind} {sp : Space} {sg : RefSig} (v : View sg κ' sp S8x128x384 .f32) (X : FVec Ideal S8x128x384 .f32) (n : Nat) (hn : n < 8) (inb : ∀ a, (![n, 0, 0] : Fin 3 → Nat) a + (![1, 128, 256] : Fin 3 → Nat) a ≤ S8x128x384.size a)
    (L : List (View.Piece (Elt Ideal) S8x128x384 .f32)) (h : ∀ w : S8x128x384.Idx, View.canon L w = X w) (d : Fin 128) (e : Fin 256) :
    (View.readCov (Val := Elt Ideal) v L (Rect.unit (s := S8x128x384) ![n, 0, 0] ![1, 128, 256] inb).toLoadRect : FVec Ideal S1x128x256 .f32) (ix3 0 d e) = X (ix3 ⟨n, hn⟩ d ⟨0 + e.val, by omega⟩) := by
  rw [View.readCov_eq_canon']
  refine (h _).trans (congrArg X ?_)
  refine funext fun a => Fin.ext ?_
  match a with
  | ⟨0, _⟩ => show n + 1 * 0 = n; omega
  | ⟨1, _⟩ => show 0 + 1 * d.val = d.val; omega
  | ⟨2, _⟩ => show 0 + 1 * e.val = 0 + e.val; omega

/-- The last columns of a slot of the carried state, loaded after the stores. -/
theorem part_n {κ' : Kind} {sp : Space} {sg : RefSig} (v : View sg κ' sp S8x128x384 .f32) (X : FVec Ideal S8x128x384 .f32) (n : Nat) (hn : n < 8) (inb : ∀ a, (![n, 0, 256] : Fin 3 → Nat) a + (![1, 128, 128] : Fin 3 → Nat) a ≤ S8x128x384.size a)
    (L : List (View.Piece (Elt Ideal) S8x128x384 .f32)) (h : ∀ w : S8x128x384.Idx, View.canon L w = X w) (d : Fin 128) (e : Fin 128) :
    (View.readCov (Val := Elt Ideal) v L (Rect.unit (s := S8x128x384) ![n, 0, 256] ![1, 128, 128] inb).toLoadRect : FVec Ideal S1x128x128 .f32) (ix3 0 d e) = X (ix3 ⟨n, hn⟩ d ⟨256 + e.val, by omega⟩) := by
  rw [View.readCov_eq_canon']
  refine (h _).trans (congrArg X ?_)
  refine funext fun a => Fin.ext ?_
  match a with
  | ⟨0, _⟩ => show n + 1 * 0 = n; omega
  | ⟨1, _⟩ => show 0 + 1 * d.val = d.val; omega
  | ⟨2, _⟩ => show 256 + 1 * e.val = 256 + e.val; omega

/-- One stored tile of the matrix state handed back is that tile of `finC`. -/
theorem piece_fin_C {κ' : Kind} {sp : Space} {sg : RefSig} {v : View sg κ' sp S8x128x384 .f32} {X : FVec Ideal S8x128x384 .f32} (n : Nat) (hn : n < 8) {inb : ∀ a, (![n, 0, 0] : Fin 3 → Nat) a + (![1, 128, 256] : Fin 3 → Nat) a ≤ S8x128x384.size a}
    {L : List (View.Piece (Elt Ideal) S8x128x384 .f32)} (h : ∀ w : S8x128x384.Idx, View.canon L w = X w) {y : S1x8x256x128.Idx} {z : S1x1x256x128.Idx}
    (h1 : (y 1).val = n + (z 1).val) (h2 : (y 2).val = (z 2).val) (h3 : (y 3).val = (z 3).val)
    {p : FVec Ideal S1x1x256x128 .f32} (hp : p = k0_pay23 (View.readCov (Val := Elt Ideal) v L (Rect.unit (s := S8x128x384) ![n, 0, 0] ![1, 128, 256] inb).toLoadRect)) : p z = finC X y := by
  have z1 : (z 1).val < 1 := (z 1).isLt
  have e := part_C v X n hn inb L h (z 3) (z 2)
  rw [hp]
  generalize (View.readCov (Val := Elt Ideal) v L (Rect.unit (s := S8x128x384) ![n, 0, 0] ![1, 128, 256] inb).toLoadRect) = Y at e ⊢
  have ez : z = ix4 0 0 (z 2) (z 3) := by idx_ext <;> omega
  rw [ez]
  pointwise [k0_pay23, finC]
  refine congrArg (· * _) (e.trans (congrArg X ?_))
  idx_ext <;> omega

/-- One stored tile of the vector state handed back is that tile of `finN`. -/
theorem piece_fin_n {κ' : Kind} {sp : Space} {sg : RefSig} {v : View sg κ' sp S8x128x384 .f32} {X : FVec Ideal S8x128x384 .f32} (n : Nat) (hn : n < 8) {inb : ∀ a, (![n, 0, 256] : Fin 3 → Nat) a + (![1, 128, 128] : Fin 3 → Nat) a ≤ S8x128x384.size a}
    {L : List (View.Piece (Elt Ideal) S8x128x384 .f32)} (h : ∀ w : S8x128x384.Idx, View.canon L w = X w) {y : S1x8x128.Idx} {z : S1x1x128.Idx}
    (h1 : (y 1).val = n + (z 1).val) (h2 : (y 2).val = (z 2).val)
    {p : FVec Ideal S1x1x128 .f32} (hp : p = k0_pay39 (View.readCov (Val := Elt Ideal) v L (Rect.unit (s := S8x128x384) ![n, 0, 256] ![1, 128, 128] inb).toLoadRect)) : p z = finN X y := by
  have z1 : (z 1).val < 1 := (z 1).isLt
  have e := part_n v X n hn inb L h (z 2) 0
  rw [hp]
  generalize (View.readCov (Val := Elt Ideal) v L (Rect.unit (s := S8x128x384) ![n, 0, 256] ![1, 128, 128] inb).toLoadRect) = Y at e ⊢
  have ez : z = ix3 0 0 (z 2) := by idx_ext <;> omega
  rw [ez]
  pointwise [k0_pay39, finN]
  refine congrArg (· * _) (e.trans (congrArg X ?_))
  idx_ext <;> omega

set_option maxHeartbeats 800000 in
/-- After the last chunk: the matrix state handed back. -/
theorem fin_C (c : Dev nD) (t : Fin cfg0.N) (h1 : ¬t.val % 8 = 0) (h2 : t.val % 8 = 7) : (outsAt0 m c t.val t.isLt).2.1 = finC (outsAt0 m c t.val t.isLt).2.2.2.2.1 := by
  generalize hX : (outsAt0 m c t.val t.isLt).2.2.2.2.1 = X
  rw [outsAt0_C m c t h1 h2] at hX ⊢
  frame_out at hX
  have e := fun w => congrFun hX w
  clear hX
  frame_out
  funext y
  canon_tiles y h
  all_goals first
    | exact piece_fin_C _ (by decide) e h1 h2 h3 rfl
    | exact piece_fin_C 0 (by decide) e (by omega) h2 h3 rfl

set_option maxHeartbeats 800000 in
/-- After the last chunk: the vector state handed back. -/
theorem fin_n (c : Dev nD) (t : Fin cfg0.N) (h1 : ¬t.val % 8 = 0) (h2 : t.val % 8 = 7) : (outsAt0 m c t.val t.isLt).2.2.1 = finN (outsAt0 m c t.val t.isLt).2.2.2.2.1 := by
  generalize hX : (outsAt0 m c t.val t.isLt).2.2.2.2.1 = X
  rw [outsAt0_C m c t h1 h2] at hX ⊢
  frame_out at hX
  have e := fun w => congrFun hX w
  clear hX
  frame_out
  funext y
  canon_tiles y h
  all_goals first
    | exact piece_fin_n _ (by decide) e h1 h2 rfl
    | exact piece_fin_n 0 (by decide) e (by omega) h2 rfl

/-- After the last chunk: the maxima handed back. -/
theorem fin_m (c : Dev nD) (t : Fin cfg0.N) (h1 : ¬t.val % 8 = 0) (h2 : t.val % 8 = 7) : (outsAt0 m c t.val t.isLt).2.2.2.1 = k0_pay3 (outsAt0 m c t.val t.isLt).2.2.2.2.2 := by
  rw [outsAt0_C m c t h1 h2]
  frame_out

end Cert.KernelIdeal.Value
end
-- ==== Proof.MlstmKernel.lean ====
/- The recurrence kernel's result arrays. -/
module

public import proofs.«01_k».proof.Proof.MlstmRowsOut
public import proofs.«01_k».proof.Proof.MlstmFirst
public import proofs.«01_k».proof.Proof.MlstmOutFirst
public import proofs.«01_k».proof.Proof.MlstmHanded

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value
open Cert.KernelIdeal Cert.KernelIdeal.Gen Cert.Mlstm

variable {m : (ℓ : Loc nD τ sig) → Buf (Elt Ideal) ℓ} {D : Data} {c : Dev nD} (hD : Args m D c)
include hD

/-- What a grid point leaves: the state and maxima at the end of its chunk, and its rows computed from those at the chunk's beginning. -/
theorem point (n : ℕ) : ∀ t : Fin cfg0.N, t.val = n → ∃ (X : FVec Ideal S8x128x384 .f32) (mm : FVec Ideal S1x128 .f32), Inv D (t.val / 8) (256 * (t.val % 8)) X mm
    ∧ (outsAt0 m c t.val t.isLt).1 = outStep (iblk m c 0 t) (iblk m c 1 t) (iblk m c 2 t) (iblk m c 3 t) (iblk m c 4 t) (iblk m c 5 t) (iblk m c 6 t) X mm
    ∧ Inv D (t.val / 8) (256 * (t.val % 8 + 1)) (outsAt0 m c t.val t.isLt).2.2.2.2.1 (outsAt0 m c t.val t.isLt).2.2.2.2.2 := by
  induction n with
  | zero =>
    intro t ht
    have h1 : t.val % 8 = 0 := by omega
    have hI : Inv D (t.val / 8) (256 * (t.val % 8)) (init (iblk m c 7 t) (iblk m c 8 t)) (k0_pay40 (iblk m c 9 t)) := by
      rw [h1]; exact inv_init hD t
    refine ⟨_, _, hI, out_A m c t h1 (by omega), ?_⟩
    rw [state_A m c t h1 (by omega), max_A m c t h1 (by omega)]
    exact inv_step hD t hI
  | succ n ih =>
    intro t ht
    by_cases h1 : t.val % 8 = 0
    · have hI : Inv D (t.val / 8) (256 * (t.val % 8)) (init (iblk m c 7 t) (iblk m c 8 t)) (k0_pay40 (iblk m c 9 t)) := by
        rw [h1]; exact inv_init hD t
      refine ⟨_, _, hI, out_A m c t h1 (by omega), ?_⟩
      rw [state_A m c t h1 (by omega), max_A m c t h1 (by omega)]
      exact inv_step hD t hI
    · obtain ⟨X, mm, -, -, hI⟩ := ih ⟨t.val - 1, Nat.lt_of_le_of_lt (Nat.sub_le _ _) t.isLt⟩ (by dsimp only; omega)
      dsimp only at hI
      rw [show (t.val - 1) / 8 = t.val / 8 by omega, show (t.val - 1) % 8 + 1 = t.val % 8 by omega] at hI
      by_cases h2 : t.val % 8 = 7
      · refine ⟨_, _, hI, out_C m c t h1 h2, ?_⟩
        rw [state_C m c t h1 h2, max_C m c t h1 h2]
        exact inv_step hD t hI
      · refine ⟨_, _, hI, out_B m c t h1 h2, ?_⟩
        rw [state_B m c t h1 h2, max_B m c t h1 h2]
        exact inv_step hD t hI

/-- At a sequence's last chunk the carried values are those after all its steps. -/
theorem last (t : Fin cfg0.N) (h2 : t.val % 8 = 7) : Inv D (t.val / 8) 2048 (outsAt0 m c t.val t.isLt).2.2.2.2.1 (outsAt0 m c t.val t.isLt).2.2.2.2.2 := by
  obtain ⟨X, mm, -, -, hI⟩ := point hD t.val t rfl
  rw [h2] at hI
  exact hI

omit hD in
/-- Equal coordinates and factors give equal rows. -/
theorem row_congr {b b' h h' t t' e e' : ℕ} {g g' o o' : EReal} (hb : b = b') (hh : h = h') (ht : t = t') (he : e = e') (hg : g = g') (ho : o = o') :
    D.row b h t e g o = D.row b' h' t' e' g' o' := by
  subst hb hh ht he hg ho; rfl

/-- The result rows after the run. -/
theorem final_rows : (dats m 0 c).arrAt 10 (cfgs 0).N = fun j => D.row ((j 0).val / 2048) ((j 1).val / 256) ((j 0).val % 2048) ((j 1).val % 256)
    (m ((c : Thread nD τ).loc main_arg4) (ix2 0 ⟨(j 1).val, (j 1).isLt⟩)) (m ((c : Thread nD τ).loc main_arg0) (ix2 ⟨(j 0).val, by have := (j 0).isLt; change (j 0).val < 16384 at this; omega⟩ ⟨4096 + (j 1).val, by have := (j 1).isLt; change (j 1).val < 2048 at this; omega⟩)) := by
  refine (dats m 0 c).arrAt_eq_of_covers 10 _ (by decide +kernel) fun t hf y => ?_
  obtain ⟨e0, e1, e2, e3, e4, e5, e6, e7, e8, e9, e10, e11, e12, e13⟩ := idx t
  obtain ⟨X, mm, hI, ho, -⟩ := point hD t.val t rfl
  have i0 : win0_10.index t 0 = t.val := congrFun e10 0
  have i1 : win0_10.index t 1 = 0 := congrFun e10 1
  have y0 : (y 0).val < 256 := (y 0).isLt
  have y1 : (y 1).val < 2048 := (y 1).isLt
  have := t_lt t
  blk_simp
  rw [after0_10, ho]
  have hy : y = ix2 (⟨(y 0).val, y0⟩ : Fin 256) (⟨(y 1).val, y1⟩ : Fin 2048) := by
    refine funext fun a => ?_
    match a with
    | ⟨0, _⟩ => rfl
    | ⟨1, _⟩ => rfl
  refine (congrArg _ hy).trans ((out_real hD t hI ⟨(y 0).val, y0⟩ ⟨(y 1).val, y1⟩).trans ?_)
  refine row_congr (by omega) (by dsimp only; omega) (by dsimp only; omega) (by dsimp only; omega) (congrArg _ ?_) (congrArg _ ?_)
  · refine congrArg₂ ix2 rfl (Fin.ext ?_)
    dsimp only
    omega
  · refine congrArg₂ ix2 (Fin.ext ?_) (Fin.ext ?_) <;> dsimp only <;> omega

/-- The matrix state after the run. -/
theorem final_C : (dats m 0 c).arrAt 11 (cfgs 0).N = fun j => ((D.S (j 0).val (j 1).val (j 3).val (j 2).val 2048 * Data.scale : ℝ) : EReal) := by
  refine (dats m 0 c).arrAt_eq_of_covers 11 _ (by decide +kernel) fun t hf y => ?_
  obtain ⟨e0, e1, e2, e3, e4, e5, e6, e7, e8, e9, e10, e11, e12, e13⟩ := idx t
  have h2 : t.val % 8 = 7 := (by decide +kernel : ∀ t : Fin grid0.N, win0_11.flush t = true → t.val % 8 = 7) t hf
  have i0 : win0_11.index t 0 = t.val / 8 := congrFun e11 0
  have i1 : win0_11.index t 1 = 0 := congrFun e11 1
  have i2 : win0_11.index t 2 = 0 := congrFun e11 2
  have i3 : win0_11.index t 3 = 0 := congrFun e11 3
  blk_simp
  rw [after0_11, fin_C m c t (by omega) h2, i0, i1, i2, i3]
  unfold finC
  simp only [Nat.zero_mul, Nat.zero_add]
  refine (congrArg₂ (· * ·) ((last hD t h2).st _ _ _) scale_eq).trans ?_
  rw [← EReal.coe_mul]
  try rfl

/-- The vector state after the run. -/
theorem final_n : (dats m 0 c).arrAt 12 (cfgs 0).N = fun j => ((D.S (j 0).val (j 1).val (j 2).val 256 2048 * Data.scale : ℝ) : EReal) := by
  refine (dats m 0 c).arrAt_eq_of_covers 12 _ (by decide +kernel) fun t hf y => ?_
  obtain ⟨e0, e1, e2, e3, e4, e5, e6, e7, e8, e9, e10, e11, e12, e13⟩ := idx t
  have h2 : t.val % 8 = 7 := (by decide +kernel : ∀ t : Fin grid0.N, win0_12.flush t = true → t.val % 8 = 7) t hf
  have i0 : win0_12.index t 0 = t.val / 8 := congrFun e12 0
  have i1 : win0_12.index t 1 = 0 := congrFun e12 1
  have i2 : win0_12.index t 2 = 0 := congrFun e12 2
  blk_simp
  rw [after0_12, fin_n m c t (by omega) h2, i0, i1, i2]
  unfold finN
  simp only [Nat.zero_mul, Nat.zero_add]
  refine (congrArg₂ (· * ·) ((last hD t h2).st _ _ _) scale_eq).trans ?_
  rw [← EReal.coe_mul]
  try rfl

/-- The maxima after the run: those of the eight heads, then zeros. -/
theorem final_m : (dats m 0 c).arrAt 13 (cfgs 0).N = fun j => if (j 2).val < 8 then ((D.f (j 0).val (j 2).val 2048 + D.mx (j 0).val (j 2).val 2048 : ℝ) : EReal) else 0 := by
  refine (dats m 0 c).arrAt_eq_of_covers 13 _ (by decide +kernel) fun t hf y => ?_
  obtain ⟨e0, e1, e2, e3, e4, e5, e6, e7, e8, e9, e10, e11, e12, e13⟩ := idx t
  have h2 : t.val % 8 = 7 := (by decide +kernel : ∀ t : Fin grid0.N, win0_13.flush t = true → t.val % 8 = 7) t hf
  have i0 : win0_13.index t 0 = t.val / 8 := congrFun e13 0
  have i2 : win0_13.index t 2 = 0 := congrFun e13 2
  have y2 : (y 2).val < 128 := (y 2).isLt
  have hI := last hD t h2
  blk_simp
  rw [after0_13, fin_m m c t (by omega) h2, i0, i2]
  simp only [Nat.zero_mul, Nat.zero_add]
  unfold k0_pay3
  pointwise []
  split
  · next h => exact hI.mx ⟨(y 2).val, h⟩
  · next h => exact hI.pad ⟨(y 2).val, y2⟩ (by dsimp only; omega)

end Cert.KernelIdeal.Value

end
-- ==== Proof.MlstmRef.lean ====
/- What the plain reference of the recurrence computes, step by step, over the real numbers: the gates and their running sums and maxima. -/
module

public import proofs.«01_k».proof.Proof.MlstmConst
public import proofs.«01_k».proof.Proof.Gen.ReferenceIdeal
public import proofs.«01_k».proof.Proof.Gen.ReferenceIdeal.Run
public import Idealize.ShloMosaic.Lib.Pipeline.Value
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.ReferenceIdeal.Value

open Cert.ReferenceIdeal Cert.ReferenceIdeal.Gen Cert.Mlstm Idealize.ShloMosaic.WordCmp

/-- A left fold of additions of real numbers is their sum. -/
theorem fold_add {n : ℕ} (g : Fin n → EReal) (f : ℕ → ℝ) (hg : ∀ i, g i = ((f i.val : ℝ) : EReal)) :
    (List.finRange n).foldl (fun r i => r + g i) 0 = ((∑ i ∈ Finset.range n, f i : ℝ) : EReal) := by
  induction n with
  | zero => rfl
  | succ n ih =>
    rw [List.finRange_succ_last, List.foldl_append, List.foldl_map]
    rw [ih (fun i => g i.castSucc) (fun i => hg _), Finset.sum_range_succ, EReal.coe_add]
    show _ + g (Fin.last n) = _
    rw [hg]
    rfl

/-- The running sum over the steps, as a window sum: entry `t` is the sum of the entries up to `t`. -/
theorem cumsum_at (x : FVec Ideal S8x2048x8 .f32) (init : FVec Ideal S_ .f32) (h0 : init ix0 = (0 : EReal)) (b : Fin 8) (t : Fin 2048) (h : Fin 8) (f : ℕ → ℝ)
    (hx : ∀ s : Fin 2048, x (ix3 b s h) = ((f s.val : ℝ) : EReal)) :
    Host.reduceWindowAdd ![1, 2048, 1] ![1, 1, 1] ![0, 2047, 0] ![0, 0, 0] x init reduceWindows_S8x2048x8_S8x2048x8_w1s1p0_0_w2048s1p2047_0_w1s1p0_0 h_S_ (ix3 b t h)
      = ((F f (t.val + 1) : ℝ) : EReal) := by
  have hi : init (Shape.Idx.first h_S_) = (0 : EReal) := (congrArg init (ValueIdx.eq_ix0 _)).trans h0
  show Ideal.hostReduceWindowAdd ![1, 2048, 1] ![1, 1, 1] ![0, 2047, 0] ![0, 0, 0] reduceWindows_S8x2048x8_S8x2048x8_w1s1p0_0_w2048s1p2047_0_w1s1p0_0 x (init (Shape.Idx.first h_S_)) (ix3 b t h) = _
  rw [hi]
  unfold Ideal.hostReduceWindowAdd Host.reduceWindow
  have hn : (⟨3, ![1, 2048, 1]⟩ : Shape).numel = 2048 := by decide
  have hs : ∀ n : Fin (⟨3, ![1, 2048, 1]⟩ : Shape).numel, (⟨3, ![1, 2048, 1]⟩ : Shape).rowMajor.symm n = ix3 (0 : Fin 1) (n.cast hn) (0 : Fin 1) := fun n =>
    ((⟨3, ![1, 2048, 1]⟩ : Shape).rowMajor.symm_apply_eq).2 (Fin.ext (by
      rw [Shape.rowMajor_val_three]
      show n.val = (0 * 2048 + n.val) * 1 + 0
      omega))
  refine (fold_add _ (fun n => if 2047 ≤ t.val + n then f (t.val + n - 2047) else 0) fun n => ?_).trans ?_
  · have hl : n.val < 2048 := lt_of_lt_of_eq n.isLt hn
    dsimp only
    split
    · next hin =>
      have h1 := hin 1
      change 2047 ≤ t.val * 1 + ((⟨3, ![1, 2048, 1]⟩ : Shape).rowMajor.symm n 1).val ∧ _ at h1
      rw [hs] at h1
      change 2047 ≤ t.val * 1 + n.val ∧ t.val * 1 + n.val - 2047 < 2048 at h1
      rw [if_pos (by omega)]
      refine (congrArg x (funext fun a => Fin.ext ?_)).trans (hx ⟨t.val + n.val - 2047, by omega⟩)
      match a with
      | ⟨0, _⟩ =>
        show b.val * 1 + ((⟨3, ![1, 2048, 1]⟩ : Shape).rowMajor.symm n 0).val - 0 = b.val
        rw [hs]
        show b.val * 1 + 0 - 0 = b.val
        omega
      | ⟨1, _⟩ =>
        show t.val * 1 + ((⟨3, ![1, 2048, 1]⟩ : Shape).rowMajor.symm n 1).val - 2047 = t.val + n.val - 2047
        rw [hs]
        show t.val * 1 + n.val - 2047 = t.val + n.val - 2047
        omega
      | ⟨2, _⟩ =>
        show h.val * 1 + ((⟨3, ![1, 2048, 1]⟩ : Shape).rowMajor.symm n 2).val - 0 = h.val
        rw [hs]
        show h.val * 1 + 0 - 0 = h.val
        omega
    · next hin =>
      rw [if_neg fun hle => hin fun a => by
        rw [hs]
        match a with
        | ⟨0, _⟩ => show 0 ≤ b.val * 1 + 0 ∧ b.val * 1 + 0 - 0 < 8; omega
        | ⟨1, _⟩ => show 2047 ≤ t.val * 1 + n.val ∧ t.val * 1 + n.val - 2047 < 2048; omega
        | ⟨2, _⟩ => show 0 ≤ h.val * 1 + 0 ∧ h.val * 1 + 0 - 0 < 8; omega]
      rfl
  · refine congrArg _ ?_
    rw [hn]
    obtain ⟨d, hd⟩ : ∃ d, 2048 = d + (t.val + 1) := ⟨2047 - t.val, by omega⟩
    rw [show Finset.range 2048 = Finset.range (d + (t.val + 1)) from congrArg _ hd, Finset.sum_range_add, Finset.sum_eq_zero fun w hw => if_neg (by have := Finset.mem_range.1 hw; omega), zero_add]
    refine Finset.sum_congr rfl fun i _ => ?_
    rw [if_pos (by omega)]
    congr 1
    omega

/-- An inner product of real numbers. -/
theorem dot_coe {ι : Type} {s : Finset ι} {x y : ι → EReal} {a b : ι → ℝ} (hx : ∀ i ∈ s, x i = ((a i : ℝ) : EReal)) (hy : ∀ i ∈ s, y i = ((b i : ℝ) : EReal)) :
    ∑ i ∈ s, x i * y i = ((∑ i ∈ s, a i * b i : ℝ) : EReal) := by
  rw [coe_sum]
  exact Finset.sum_congr rfl fun i hi => by rw [hx i hi, hy i hi, EReal.coe_mul]

/-- The larger of an entry and the largest entry along the third axis. -/
theorem reduce_max_at {n0 n1 n2 n3 : ℕ} (y : FVec Ideal ⟨3, ![n0, n1, n3]⟩ .f32) (x : FVec Ideal ⟨4, ![n0, n1, n2, n3]⟩ .f32)
    (hr : (⟨4, ![n0, n1, n2, n3]⟩ : Shape).ReducesTo [2] ⟨3, ![n0, n1, n3]⟩) (b : Fin n0) (t : Fin n1) (h : Fin n3) :
    maximumf y (Host.reduce FloatOps.maximumf x (constant S_ .f32 0xFF800000#32) hr h_S_) (ix3 b t h)
      = max (Finset.univ.fold max (⊥ : EReal) fun s : Fin n2 => x (ix4 b t s h)) (y (ix3 b t h)) := by
  pointwise []
  rw [neginf_eq, max_comm]

variable (V : Valuation τ sig (Elt Ideal)) (D : Data)

/-- The argument arrays are the inputs `D`. -/
abbrev Args : Prop :=
  D.Of (fun i j => V (Proc.devRef .tc main_arg0) (ix2 i j)) (fun i j => V (Proc.devRef .tc main_arg1) (ix2 i j))
    (fun j => V (Proc.devRef .tc main_arg2) (ix2 0 j)) (fun j => V (Proc.devRef .tc main_arg3) (ix2 0 j))
    (fun b h e d => V (Proc.devRef .tc main_arg5) (ix4 b h e d)) (fun b h d => V (Proc.devRef .tc main_arg6) (ix3 b h d))
    (fun b h => V (Proc.devRef .tc main_arg7) (ix2 b h))

variable {V} {D} (hD : Args V D)
include hD

/-- The projection's entries. -/
theorem v1_at (i : Fin 16384) (j : Fin 12288) : res_main_v1 V (ix2 i j) = ((D.P i.val j.val : ℝ) : EReal) := by
  pointwise [res_main_v1]
  exact hD.hP _ _

/-- The queries. -/
theorem v5_at (b : Fin 8) (s : Fin 2048) (h : Fin 8) (d : Fin 128) : res_main_v5 V (ix4 b s h d) = ((D.q b.val h.val s.val d.val : ℝ) : EReal) := by
  pointwise [res_main_v5]
  refine (v1_at hD _ _).trans (congrArg _ (congrArg₂ D.P ?_ ?_)) <;> dsimp only <;> omega

/-- The scaled keys. -/
theorem v9_at (b : Fin 8) (s : Fin 2048) (h : Fin 8) (d : Fin 128) : res_main_v9 V (ix4 b s h d) = ((D.k b.val h.val s.val d.val * Data.scale : ℝ) : EReal) := by
  pointwise [res_main_v9]
  rw [v1_at hD, scale_eq, ← EReal.coe_mul]
  refine congrArg _ (congrArg (· * _) (congrArg₂ D.P ?_ ?_)) <;> dsimp only <;> omega

/-- The values. -/
theorem v11_at (b : Fin 8) (s : Fin 2048) (h : Fin 8) (e : Fin 256) : res_main_v11 V (ix4 b s h e) = ((D.v b.val h.val s.val e.val : ℝ) : EReal) := by
  pointwise [res_main_v11]
  refine (v1_at hD _ _).trans (congrArg _ (congrArg₂ D.P ?_ ?_)) <;> dsimp only <;> omega

/-- The input gate's logarithms. -/
theorem v19_at (b : Fin 8) (s : Fin 2048) (h : Fin 8) : res_main_v19 V (ix3 b s h) = ((D.il b.val h.val s.val : ℝ) : EReal) := by
  pointwise [res_main_v19, res_main_v3]
  refine (congrArg₂ (· + ·) (hD.hG _ _) (hD.hbi _)).trans ?_
  rw [← EReal.coe_add]
  refine congrArg _ (congrArg (· + _) (congrArg₂ D.G ?_ rfl))
  dsimp only
  omega

/-- The forget gate's argument, negated. -/
theorem call0_v0_at (b : Fin 8) (s : Fin 2048) (h : Fin 8) : res_main_call0_v0 V (ix3 b s h) = ((-(D.G (2048 * b.val + s.val) (8 + h.val) + D.bf h.val) : ℝ) : EReal) := by
  pointwise [res_main_call0_v0, res_main_v3]
  refine (congrArg (fun z : EReal => -z) (congrArg₂ (· + ·) (hD.hG _ _) (hD.hbf _))).trans ?_
  rw [← EReal.coe_add, ← EReal.coe_neg]
  refine congrArg _ (congrArg (fun z : ℝ => -z) (congrArg (· + _) (congrArg₂ D.G ?_ rfl)))
  dsimp only
  omega

/-- The forget gate's logarithms, summed up to each step. -/
theorem v27_at (b : Fin 8) (t : Fin 2048) (h : Fin 8) : res_main_v27 V (ix3 b t h) = ((D.f b.val h.val (t.val + 1) : ℝ) : EReal) := by
  unfold res_main_v27
  refine cumsum_at _ _ ?_ b t h (D.fl b.val h.val) fun s => ?_
  · pointwise []
  · pointwise [res_main_call0_call0_v3, res_main_call0_call0_cst]
    rw [call0_v0_at hD, if_neg (fun e => e rfl), show (FloatOps.absf ((((-(D.G (2048 * b.val + s.val) (8 + h.val) + D.bf h.val) : ℝ) : EReal) : Ideal .f32)) : Ideal .f32) = ((|(-(D.G (2048 * b.val + s.val) (8 + h.val) + D.bf h.val))| : ℝ) : EReal) from (coe_abs' _).symm,
      ← EReal.coe_neg, log1p_exp, ← EReal.coe_zero, ← coe_max', ← EReal.coe_add, ← EReal.coe_neg, abs_neg]
    refine congrArg _ ?_
    unfold Data.fl lsig
    rw [neg_add, ← sub_eq_add_neg]
    refine congrArg (· - _) ?_
    rw [← min_neg_neg, neg_neg, neg_zero]

/-- The logarithms' weights of step `s` at step `t`, with those of later steps masked. -/
theorem v39_at (b : Fin 8) (t s : Fin 2048) (h : Fin 8) : res_main_v39 V (ix4 b t s h)
    = if s.val ≤ t.val then ((A (D.fl b.val h.val) (D.il b.val h.val) s.val + D.f b.val h.val (t.val + 1) : ℝ) : EReal) else ⊥ := by
  pointwise [res_main_v39]
  rw [v27_at hD, v27_at hD, v19_at hD, show id (constant (F := Ideal) S_ FTy.f32 4286578688#32) ix0 = (⊥ : EReal) from neginf_eq,
    show IntOp.addi (BitVec.ofNat 32 t.val) 0#32 = BitVec.ofNat 32 t.val from by unfold IntOp.addi; exact BitVec.add_zero _,
    show IntOp.cmpi CmpIPredicate.sge (BitVec.ofNat 32 t.val) (BitVec.ofNat 32 s.val) = IntOp.cmpi CmpIPredicate.sle (BitVec.ofNat 32 s.val) (BitVec.ofNat 32 t.val) from rfl,
    cmpi_sle_ofNat (by omega) (by omega), select_ofBool, ← EReal.coe_sub, ← EReal.coe_add]
  by_cases hst : s.val ≤ t.val
  · rw [if_pos hst, if_pos (by simpa using hst)]
    refine Eq.trans (if_pos rfl) ?_
    refine congrArg _ ?_
    unfold A Data.f
    ring
  · rw [if_neg hst, if_neg (by simpa using hst)]
    exact if_neg (by decide)

/-- The incoming maximum, carried to step `t`. -/
theorem v42_at (b : Fin 8) (t : Fin 2048) (h : Fin 8) : res_main_v42 V (ix3 b t h) = ((D.f b.val h.val (t.val + 1) + D.M b.val h.val : ℝ) : EReal) := by
  pointwise [res_main_v42]
  rw [v27_at hD, EReal.coe_add]
  exact congrArg (_ + ·) (hD.hM _ _)

/-- The running maximum. -/
theorem v44_at (b : Fin 8) (t : Fin 2048) (h : Fin 8) : res_main_v44 V (ix3 b t h) = ((D.f b.val h.val (t.val + 1) + D.mx b.val h.val (t.val + 1) : ℝ) : EReal) := by
  unfold res_main_v44
  refine (reduce_max_at _ _ _ b t h).trans ?_
  rw [v42_at hD, show (fun s : Fin 2048 => res_main_v39 V (ix4 b t s h)) = _ from funext fun s => v39_at hD b t s h]
  have := max_row (D.fl b.val h.val) (D.il b.val h.val) (D.M b.val h.val) 0 2048 t.val t.isLt (D.f b.val h.val (t.val + 1))
  simp only [Nat.zero_add] at this
  exact this

/-- The decay of the incoming state at step `t`. -/
theorem v50_at (b : Fin 8) (t : Fin 2048) (h : Fin 8) : res_main_v50 V (ix3 b t h) = ((Real.exp (D.M b.val h.val - D.mx b.val h.val (t.val + 1)) : ℝ) : EReal) := by
  pointwise [res_main_v50]
  rw [v42_at hD, v44_at hD, ← EReal.coe_sub, Ideal.exp_coe]
  refine congrArg _ (congrArg Real.exp ?_)
  ring

/-- The weighted product of step `t`'s query and step `s`'s key; zero for later steps. -/
theorem v53_at (b : Fin 8) (t s : Fin 2048) (h : Fin 8) : res_main_v53 V (ix4 b t s h)
    = (((if s.val ≤ t.val then (∑ d : Fin 128, D.k b.val h.val s.val d.val * Data.scale * D.q b.val h.val t.val d.val) * Real.exp (A (D.fl b.val h.val) (D.il b.val h.val) s.val - D.mx b.val h.val (t.val + 1)) else 0) : ℝ) : EReal) := by
  pointwise [res_main_v53]
  rw [v39_at hD, v44_at hD]
  refine (congrArg (· * _) (dot_coe (fun d _ => v9_at hD b s h d) (fun d _ => v5_at hD b t h d))).trans ?_
  by_cases hst : s.val ≤ t.val
  · rw [if_pos hst, if_pos hst, ← EReal.coe_sub, Ideal.exp_coe, ← EReal.coe_mul]
    refine congrArg _ (congrArg (_ * ·) (congrArg Real.exp ?_))
    ring
  · rw [if_neg hst, if_neg hst, EReal.bot_sub, Ideal.exp_bot, mul_zero, EReal.coe_zero]

end Cert.ReferenceIdeal.Value

end
-- ==== Proof.MlstmRefForms.lean ====
/- Entries of the arrays that the plain reference of the recurrence returns, from entries of the arrays before them. -/
module

public import proofs.«01_k».proof.Proof.MlstmRef
public import proofs.«01_k».proof.Proof.Gen.ReferenceIdeal
public import proofs.«01_k».proof.Proof.Gen.ReferenceIdeal.Run
public import Idealize.ShloMosaic.Lib.Pipeline.Value
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.ReferenceIdeal.Value

open Cert.ReferenceIdeal Cert.ReferenceIdeal.Gen Cert.Mlstm Idealize.ShloMosaic.WordCmp

/-- The matrix state, as a function of the arrays before it. -/
abbrev REF_C (x88 : FVec Ideal S8x8 .f32) (a5 : FVec Ideal S8x8x256x128 .f32) (x83 : FVec Ideal S8x2048x8 .f32) (x11 : FVec Ideal S8x2048x8x256 .f32) (x9 : FVec Ideal S8x2048x8x128 .f32) : FVec Ideal S8x8x256x128 .f32 :=
  addf (mulf (broadcastInDim S8x8x256x128 ![0, 1, 2, 3] bcast_S8x8x1x1_S8x8x256x128_0_1_2_3 (broadcastInDim S8x8x1x1 ![0, 1] bcast_S8x8_S8x8x1x1_0_1 x88)) a5) (Host.dotGeneral dot_S8x2048x8x256_S8x2048x8x128_S8x8x256x128_1_1_3_3_02_02 none (mulf (broadcastInDim S8x2048x8x256 ![0, 1, 2, 3] bcast_S8x2048x8x1_S8x2048x8x256_0_1_2_3 (broadcastInDim S8x2048x8x1 ![0, 1, 2] bcast_S8x2048x8_S8x2048x8x1_0_1_2 x83)) x11) x9)

/-- An entry of the matrix state: the incoming one, scaled, plus the weighted products of values and keys. -/
theorem C_form (x88 : FVec Ideal S8x8 .f32) (a5 : FVec Ideal S8x8x256x128 .f32) (x83 : FVec Ideal S8x2048x8 .f32) (x11 : FVec Ideal S8x2048x8x256 .f32) (x9 : FVec Ideal S8x2048x8x128 .f32) (b h : Fin 8) (e : Fin 256) (d : Fin 128) :
    REF_C x88 a5 x83 x11 x9 (ix4 b h e d) = x88 (ix2 b h) * a5 (ix4 b h e d) + ∑ s : Fin 2048, x83 (ix3 b s h) * x11 (ix4 b s h e) * x9 (ix4 b s h d) := by
  pointwise [REF_C]

/-- The vector state, as a function of the arrays before it. -/
abbrev REF_n (x88 : FVec Ideal S8x8 .f32) (a6 : FVec Ideal S8x8x128 .f32) (x83 : FVec Ideal S8x2048x8 .f32) (x9 : FVec Ideal S8x2048x8x128 .f32) : FVec Ideal S8x8x128 .f32 :=
  addf (mulf (broadcastInDim S8x8x128 ![0, 1, 2] bcast_S8x8x1_S8x8x128_0_1_2 (broadcastInDim S8x8x1 ![0, 1] bcast_S8x8_S8x8x1_0_1 x88)) a6) (Host.dotGeneral dot_S8x2048x8_S8x2048x8x128_S8x8x128_1_1_n_3_02_02 none x83 x9)

/-- An entry of the vector state. -/
theorem n_form (x88 : FVec Ideal S8x8 .f32) (a6 : FVec Ideal S8x8x128 .f32) (x83 : FVec Ideal S8x2048x8 .f32) (x9 : FVec Ideal S8x2048x8x128 .f32) (b h : Fin 8) (d : Fin 128) :
    REF_n x88 a6 x83 x9 (ix3 b h d) = x88 (ix2 b h) * a6 (ix3 b h d) + ∑ s : Fin 2048, x83 (ix3 b s h) * x9 (ix4 b s h d) := by
  pointwise [REF_n]

/-- The maxima with zeros after them. -/
abbrev REF_m (x75 : FVec Ideal S8x8 .f32) : FVec Ideal S8x1x128 .f32 :=
  broadcastInDim S8x1x128 ![0, 2] bcast_S8x128_S8x1x128_0_2 (pad S8x128 ![0, 0] ![0, 120] ![0, 0] x75 (sitofp .f32 (constantI S_ 32 0#32)) pads_S8x8_S8x128_000_01200 h_S_)

/-- An entry of the maxima. -/
theorem m_form (x75 : FVec Ideal S8x8 .f32) (b : Fin 8) (l : Fin 128) : REF_m x75 (ix3 b 0 l) = if h : l.val < 8 then x75 (ix2 b ⟨l.val, h⟩) else (0 : EReal) := by
  pointwise [REF_m]
  refine dite_congr rfl (fun _ => rfl) fun _ => ?_
  show ((((0#32 : BitVec 32).toInt : ℤ) : ℝ) : EReal) = 0
  norm_num

/-- The results before their norm, as a function of the arrays before them. -/
abbrev REF_h (x11 : FVec Ideal S8x2048x8x256 .f32) (x53 : FVec Ideal S8x2048x2048x8 .f32) (x50 : FVec Ideal S8x2048x8 .f32) (x5 : FVec Ideal S8x2048x8x128 .f32) (a5 : FVec Ideal S8x8x256x128 .f32) (a6 : FVec Ideal S8x8x128 .f32) (x44 : FVec Ideal S8x2048x8 .f32) : FVec Ideal S8x2048x8x256 .f32 :=
  Host.divf (addf (transpose S8x2048x8x256 [0, 3, 1, 2] (Host.dotGeneral dot_S8x2048x8x256_S8x2048x2048x8_S8x8x256x2048_1_2_3_1_02_03 none x11 x53) transposes_S8x8x256x2048_S8x2048x8x256_0_3_1_2) (mulf (broadcastInDim S8x2048x8x256 ![0, 1, 2, 3] bcast_S8x2048x8x1_S8x2048x8x256_0_1_2_3 (broadcastInDim S8x2048x8x1 ![0, 1, 2] bcast_S8x2048x8_S8x2048x8x1_0_1_2 x50)) (transpose S8x2048x8x256 [0, 2, 1, 3] (Host.dotGeneral dot_S8x2048x8x128_S8x8x256x128_S8x8x2048x256_3_3_1_2_02_01 none x5 a5) transposes_S8x8x2048x256_S8x2048x8x256_0_2_1_3))) (broadcastInDim S8x2048x8x256 ![0, 1, 2, 3] bcast_S8x2048x8x1_S8x2048x8x256_0_1_2_3 (broadcastInDim S8x2048x8x1 ![0, 1, 2] bcast_S8x2048x8_S8x2048x8x1_0_1_2 (maximumf (Host.absf (addf (Host.reduceAdd x53 (constant S_ .f32 0x00000000#32) reducesTo_S8x2048x2048x8_S8x2048x8_d2 h_S_) (mulf x50 (transpose S8x2048x8 [0, 2, 1] (Host.dotGeneral dot_S8x2048x8x128_S8x8x128_S8x8x2048_3_2_1_n_02_01 none x5 a6) transposes_S8x8x2048_S8x2048x8_0_2_1)))) (Host.exp (Host.negf x44)))))

/-- An entry of them: numerator over denominator. -/
theorem h_form (x11 : FVec Ideal S8x2048x8x256 .f32) (x53 : FVec Ideal S8x2048x2048x8 .f32) (x50 : FVec Ideal S8x2048x8 .f32) (x5 : FVec Ideal S8x2048x8x128 .f32) (a5 : FVec Ideal S8x8x256x128 .f32) (a6 : FVec Ideal S8x8x128 .f32) (x44 : FVec Ideal S8x2048x8 .f32)
    (b : Fin 8) (t : Fin 2048) (h : Fin 8) (e : Fin 256) : REF_h x11 x53 x50 x5 a5 a6 x44 (ix4 b t h e)
      = Ideal.div (∑ s : Fin 2048, x11 (ix4 b s h e) * x53 (ix4 b t s h) + x50 (ix3 b t h) * ∑ d : Fin 128, x5 (ix4 b t h d) * a5 (ix4 b h e d))
          (max (FloatOps.absf (F := Ideal) (φ := .f32) (∑ s : Fin 2048, x53 (ix4 b t s h) + x50 (ix3 b t h) * ∑ d : Fin 128, x5 (ix4 b t h d) * a6 (ix3 b h d))) (Ideal.exp (-(x44 (ix3 b t h))))) := by
  pointwise [REF_h]

/-- The rows, as a function of the arrays before them. -/
abbrev REF_rows (x73 : FVec Ideal S8x2048x8x256 .f32) (a4 : FVec Ideal S2x2048 .f32) (x1 : FVec Ideal S16384x12288 .f32) : FVec Ideal S16384x2048 .bf16 :=
  shapeCast _ (truncf .bf16 (mulf (mulf (shapeCast _ (mulf x73 (broadcastInDim S8x2048x8x256 ![0, 1, 2, 3] bcast_S8x2048x8x1_S8x2048x8x256_0_1_2_3 (Host.rsqrt (addf (Host.divf (broadcastInDim S8x2048x8x1 ![0, 1, 2] bcast_S8x2048x8_S8x2048x8x1_0_1_2 (Host.reduceAdd (mulf x73 x73) (constant S_ .f32 0x00000000#32) reducesTo_S8x2048x8x256_S8x2048x8_d3 h_S_)) (broadcastInDim S8x2048x8x1 ![] bcast_S_S8x2048x8x1 (constant S_ .f32 0x43800000#32))) (broadcastInDim S8x2048x8x1 ![] bcast_S_S8x2048x8x1 (constant S_ .f32 0x358637BD#32)))))) shapeCasts_S8x2048x8x256_S8x2048x2048) (broadcastInDim S8x2048x2048 ![0, 1, 2] bcast_S1x1x2048_S8x2048x2048_0_1_2 (broadcastInDim S1x1x2048 ![2] bcast_S2048_S1x1x2048_2 (shapeCast _ (extractStridedSlice S1x2048 ![0, 0] a4 slices_S2x2048_S1x2048_0_0) shapeCasts_S1x2048_S2048)))) (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (shapeCast _ (extractStridedSlice S16384x2048 ![0, 4096] x1 slices_S16384x12288_S16384x2048_0_4096) shapeCasts_S16384x2048_S8x2048x2048)))))) bitsLt_bf16_f32) shapeCasts_S8x2048x2048_S16384x2048

/-- An entry of the rows: the result over its norm, times the norm's weight and the gate. -/
theorem rows_form (x73 : FVec Ideal S8x2048x8x256 .f32) (a4 : FVec Ideal S2x2048 .f32) (x1 : FVec Ideal S16384x12288 .f32) (R : Fin 16384) (col : Fin 2048) :
    REF_rows x73 a4 x1 (ix2 R col) = x73 (ix4 ⟨R.val / 2048, by omega⟩ ⟨R.val % 2048, by omega⟩ ⟨col.val / 256, by omega⟩ ⟨col.val % 256, by omega⟩)
        * Ideal.rsqrt (Ideal.div (∑ e : Fin 256, x73 (ix4 ⟨R.val / 2048, by omega⟩ ⟨R.val % 2048, by omega⟩ ⟨col.val / 256, by omega⟩ e) * x73 (ix4 ⟨R.val / 2048, by omega⟩ ⟨R.val % 2048, by omega⟩ ⟨col.val / 256, by omega⟩ e)) (Ideal.ofBits .f32 0x43800000#32) + Ideal.ofBits .f32 0x358637BD#32)
        * a4 (ix2 0 col) * Gate.sig (x1 (ix2 R ⟨4096 + col.val, by omega⟩)) := by
  pointwise [REF_rows]
  rfl

end Cert.ReferenceIdeal.Value

end
-- ==== Proof.MlstmRefOut.lean ====
/- The arrays that the plain reference of the recurrence returns, over the real numbers. -/
module

public import proofs.«01_k».proof.Proof.MlstmRefForms
public import proofs.«01_k».proof.Proof.Gen.ReferenceIdeal
public import proofs.«01_k».proof.Proof.Gen.ReferenceIdeal.Run
public import Idealize.ShloMosaic.Lib.Pipeline.Value
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.ReferenceIdeal.Value

open Cert.ReferenceIdeal Cert.ReferenceIdeal.Gen Cert.Mlstm Idealize.ShloMosaic.WordCmp

variable {V : Valuation τ sig (Elt Ideal)} {D : Data} (hD : Args V D)
include hD

/-- A step's denominator, before its size is taken. -/
theorem den_at (b : Fin 8) (t : Fin 2048) (h : Fin 8) (x53 : Fin 2048 → EReal) (x50 : EReal) (x5 a6 : Fin 128 → EReal)
    (h53 : ∀ s, x53 s = res_main_v53 V (ix4 b t s h)) (h50 : x50 = res_main_v50 V (ix3 b t h)) (h5 : ∀ d, x5 d = res_main_v5 V (ix4 b t h d)) (h6 : ∀ d, a6 d = ((D.N b.val h.val d.val : ℝ) : EReal)) :
    ∑ s : Fin 2048, x53 s + x50 * ∑ d : Fin 128, x5 d * a6 d = ((Data.scale * D.X b.val h.val t.val 256 : ℝ) : EReal) := by
  rw [Finset.sum_congr rfl fun s _ => (h53 s).trans (v53_at hD b t s h), ← coe_sum, h50.trans (v50_at hD b t h),
    dot_coe (fun d _ => (h5 d).trans (v5_at hD b t h d)) (fun d _ => h6 d), ← EReal.coe_mul, ← EReal.coe_add]
  refine congrArg _ ?_
  rw [← Data.X_eq D b.val h.val t.val 2048 256 t.isLt (fun _ => 1) (fun d => D.N b.val h.val d) (fun _ => rfl) (fun _ => rfl)]
  simp only [one_mul]

/-- A step's numerator. -/
theorem num_at (b : Fin 8) (t : Fin 2048) (h : Fin 8) (e : Fin 256) (x11 x53 : Fin 2048 → EReal) (x50 : EReal) (x5 a5 : Fin 128 → EReal)
    (h11 : ∀ s, x11 s = res_main_v11 V (ix4 b s h e)) (h53 : ∀ s, x53 s = res_main_v53 V (ix4 b t s h)) (h50 : x50 = res_main_v50 V (ix3 b t h)) (h5 : ∀ d, x5 d = res_main_v5 V (ix4 b t h d))
    (h6 : ∀ d, a5 d = ((D.C b.val h.val e.val d.val : ℝ) : EReal)) :
    ∑ s : Fin 2048, x11 s * x53 s + x50 * ∑ d : Fin 128, x5 d * a5 d = ((Data.scale * D.X b.val h.val t.val e.val : ℝ) : EReal) := by
  rw [dot_coe (fun s _ => (h11 s).trans (v11_at hD b s h e)) (fun s _ => (h53 s).trans (v53_at hD b t s h)), h50.trans (v50_at hD b t h),
    dot_coe (fun d _ => (h5 d).trans (v5_at hD b t h d)) (fun d _ => h6 d), ← EReal.coe_mul, ← EReal.coe_add]
  exact congrArg _ (Data.X_eq D b.val h.val t.val 2048 e.val t.isLt (fun s => D.v b.val h.val s e.val) (fun d => D.C b.val h.val e.val d) (fun _ => if_pos e.isLt) (fun _ => if_pos e.isLt))

/-- An entry of the normalized results. -/
theorem v73_at (b : Fin 8) (t : Fin 2048) (h : Fin 8) (e : Fin 256) : res_main_v73 V (ix4 b t h e) = ((D.X b.val h.val t.val e.val * (1 / D.den b.val h.val t.val) : ℝ) : EReal) := by
  refine (h_form (res_main_v11 V) (res_main_v53 V) (res_main_v50 V) (res_main_v5 V) (V (Proc.devRef .tc main_arg5)) (V (Proc.devRef .tc main_arg6)) (res_main_v44 V) b t h e).trans ?_
  rw [num_at hD b t h e _ _ _ _ _ (fun _ => rfl) (fun _ => rfl) rfl (fun _ => rfl) (fun d => hD.hC b h e d),
    den_at hD b t h _ _ _ _ (fun _ => rfl) rfl (fun _ => rfl) (fun d => hD.hN b h d), v44_at hD,
    show (FloatOps.absf (((Data.scale * D.X b.val h.val t.val 256 : ℝ) : EReal) : Ideal .f32) : Ideal .f32) = ((|Data.scale * D.X b.val h.val t.val 256| : ℝ) : EReal) from (coe_abs' _).symm,
    ← EReal.coe_neg, Ideal.exp_coe]
  refine (congrArg (Ideal.div _) ((coe_max' _ _).symm.trans (congrArg _ (Data.den_eq D b.val h.val t.val)))).trans ?_
  rw [Ideal.div_coe (mul_pos Data.scale_pos (D.den_pos b.val h.val t.val)).ne', ← EReal.coe_mul]
  exact congrArg _ (Data.quot_eq D b.val h.val t.val e.val)

/-- The maxima after the last step. -/
theorem v75_at (b h : Fin 8) : res_main_v75 V (ix2 b h) = ((D.f b.val h.val 2048 + D.mx b.val h.val 2048 : ℝ) : EReal) := by
  pointwise [res_main_v75]
  exact v44_at hD _ _ _

/-- Each step's weight in the final state. -/
theorem v83_at (b : Fin 8) (s : Fin 2048) (h : Fin 8) : res_main_v83 V (ix3 b s h) = ((Real.exp (A (D.fl b.val h.val) (D.il b.val h.val) s.val - D.mx b.val h.val 2048) : ℝ) : EReal) := by
  pointwise [res_main_v83]
  rw [v27_at hD, v27_at hD, v19_at hD, v75_at hD, ← EReal.coe_sub, ← EReal.coe_add, ← EReal.coe_sub, Ideal.exp_coe]
  refine congrArg _ (congrArg Real.exp ?_)
  unfold A Data.f
  show F _ 2048 - _ + _ - _ = _
  ring

/-- The incoming state's weight in the final state. -/
theorem v88_at (b h : Fin 8) : res_main_v88 V (ix2 b h) = ((Real.exp (D.M b.val h.val - D.mx b.val h.val 2048) : ℝ) : EReal) := by
  pointwise [res_main_v88]
  rw [v27_at hD, v75_at hD]
  refine (congrArg (fun z : EReal => Ideal.exp (_ + z - _)) (hD.hM b h)).trans ?_
  rw [← EReal.coe_add, ← EReal.coe_sub, Ideal.exp_coe]
  refine congrArg _ (congrArg Real.exp ?_)
  show D.f b.val h.val 2048 + _ - _ = _
  ring

/-- The matrix state that the reference returns. -/
theorem ref_C (b h : Fin 8) (e : Fin 256) (d : Fin 128) :
    REF_C (res_main_v88 V) (V (Proc.devRef .tc main_arg5)) (res_main_v83 V) (res_main_v11 V) (res_main_v9 V) (ix4 b h e d)
      = ((D.S b.val h.val d.val e.val 2048 * Data.scale : ℝ) : EReal) := by
  refine (C_form _ _ _ _ _ b h e d).trans ?_
  rw [dot_coe (fun s _ => (congrArg₂ (fun y z : EReal => y * z) (v83_at hD b s h) (v11_at hD b s h e)).trans (EReal.coe_mul _ _).symm) (fun s _ => v9_at hD b s h d)]
  refine (congrArg₂ (fun y z : EReal => y * z + _) (v88_at hD b h) (hD.hC b h e d)).trans ?_
  rw [← EReal.coe_mul, ← EReal.coe_add]
  exact congrArg _ (Data.S_eq D b.val h.val d.val 2048 e.val (fun s => D.v b.val h.val s e.val) _ (fun _ => if_pos e.isLt) (if_pos e.isLt))

/-- The vector state that the reference returns. -/
theorem ref_n (b h : Fin 8) (d : Fin 128) :
    REF_n (res_main_v88 V) (V (Proc.devRef .tc main_arg6)) (res_main_v83 V) (res_main_v9 V) (ix3 b h d)
      = ((D.S b.val h.val d.val 256 2048 * Data.scale : ℝ) : EReal) := by
  refine (n_form _ _ _ _ b h d).trans ?_
  rw [dot_coe (fun s _ => v83_at hD b s h) (fun s _ => v9_at hD b s h d)]
  refine (congrArg₂ (fun y z : EReal => y * z + _) (v88_at hD b h) (hD.hN b h d)).trans ?_
  rw [← EReal.coe_mul, ← EReal.coe_add]
  refine congrArg _ ?_
  rw [← Data.S_eq D b.val h.val d.val 2048 256 (fun _ => 1) (D.N b.val h.val d.val) (fun _ => rfl) rfl]
  simp only [mul_one]

/-- The maxima that the reference returns: those of the eight heads, then zeros. -/
theorem ref_m (b : Fin 8) (l : Fin 128) : REF_m (res_main_v75 V) (ix3 b 0 l)
      = if l.val < 8 then ((D.f b.val l.val 2048 + D.mx b.val l.val 2048 : ℝ) : EReal) else 0 := by
  refine (m_form _ b l).trans ?_
  split
  · next hl => exact v75_at hD b ⟨l.val, hl⟩
  · rfl

/-- The rows that the reference returns. -/
theorem ref_rows (R : Fin 16384) (col : Fin 2048) :
    REF_rows (res_main_v73 V) (V (Proc.devRef .tc main_arg4)) (res_main_v1 V) (ix2 R col)
      = D.row (R.val / 2048) (col.val / 256) (R.val % 2048) (col.val % 256) (V (Proc.devRef .tc main_arg4) (ix2 0 col)) (res_main_v1 V (ix2 R ⟨4096 + col.val, by omega⟩)) := by
  refine (rows_form _ _ _ R col).trans ?_
  rw [dot_coe (fun e _ => v73_at hD _ _ _ e) (fun e _ => v73_at hD _ _ _ e), v73_at hD, width_eq, eps_eq, Data.sq_eq,
    Ideal.div_coe (by norm_num), ← EReal.coe_mul, ← EReal.coe_add, mul_assoc, mul_assoc (1 / D.den _ _ _ * (1 / D.den _ _ _)) (D.sq _ _ _), rsqrt_pos _ (Data.root_pos D _ _ _), ← EReal.coe_mul, mul_assoc]
  unfold Data.row Data.norm
  rw [← EReal.coe_mul]

end Cert.ReferenceIdeal.Value

end
-- ==== Proof.MlstmFinite.lean ====
/- Arguments whose entries are finite numbers, as real numbers. -/
module

public import proofs.«01_k».proof.Proof.MlstmKernel
public import proofs.«01_k».proof.Proof.MlstmRefOut
public import proofs.«01_k».proof.Proof.Gen.Pre_finite
public import Idealize.ShloMosaic.Lib.ReduceAll
public import Idealize.ShloMosaic.Lib.Pointwise

@[expose] public section

set_option maxRecDepth 16384

noncomputable section

open Idealize.ShloMosaic Idealize.ShloMosaic.TcCoe Idealize.SL.Sem
open scoped BigOperators

namespace Cert.Mlstm

/-- An extended real whose difference from itself is zero is a real number. -/
theorem finite_coe (a : EReal) (h : Ideal.cmp .oeq (a - a) 0 = 1#1) : a = ((a.toReal : ℝ) : EReal) := by
  have h0 : a - a = 0 := by
    by_contra hn
    simp [Ideal.cmp, hn] at h
  induction a with
  | bot => exact absurd h0 (by simp)
  | top => exact absurd h0 (by simp)
  | coe x => rfl

/-- If the differences of an array's entries from themselves are all zero, the entries are real numbers. -/
theorem all_coe {s : Shape} {axes : List (Fin s.rank)} (x : FVec Ideal s .f32) (hb : (⟨0, ![]⟩ : Shape).BroadcastsInDim s (![] : Fin 0 → Fin s.rank)) (hr : s.ReducesTo axes ⟨0, ![]⟩) (hu : 0 < (⟨0, ![]⟩ : Shape).numel)
    (j : (⟨0, ![]⟩ : Shape).Idx) (e : Host.reduce IntOp.andi (cmpf .oeq (subf x x) (broadcastInDim s ![] hb (constant ⟨0, ![]⟩ .f32 0x00000000#32))) (constantI ⟨0, ![]⟩ 1 1#1) hr hu j = 1#1) (i : s.Idx) :
    x i = (((x i : EReal).toReal : ℝ) : EReal) := by
  have : Subsingleton (⟨0, ![]⟩ : Shape).Idx := ⟨fun a b => funext fun k => k.elim0⟩
  have h := Host.reduce_andi_all _ _ _ _ j e i
  refine finite_coe _ (Eq.trans ?_ h)
  refine congrArg (Ideal.cmp .oeq _) ?_
  pointwise []

variable (a0 : FVec Ideal Cert.Pre_finite.S16896x12288 .bf16) (a1 : FVec Ideal Cert.Pre_finite.S16896x128 .f32) (a2 a3 : FVec Ideal Cert.Pre_finite.S2x8 .f32) (a4 : FVec Ideal Cert.Pre_finite.S2x2048 .f32)
    (a5 : FVec Ideal Cert.Pre_finite.S8x8x256x128 .f32) (a6 : FVec Ideal Cert.Pre_finite.S8x8x128 .f32) (a7 : FVec Ideal Cert.Pre_finite.S8x8 .f32)

/-- The arguments' entries as real numbers, zero outside the arrays. -/
def data : Data where
  P i j := if h : i < 16896 ∧ j < 12288 then EReal.toReal (a0 (ix2 ⟨i, h.1⟩ ⟨j, h.2⟩)) else 0
  G i j := if h : i < 16896 ∧ j < 128 then EReal.toReal (a1 (ix2 ⟨i, h.1⟩ ⟨j, h.2⟩)) else 0
  bi j := if h : j < 8 then EReal.toReal (a2 (ix2 0 ⟨j, h⟩)) else 0
  bf j := if h : j < 8 then EReal.toReal (a3 (ix2 0 ⟨j, h⟩)) else 0
  C b k e d := if h : (b < 8 ∧ k < 8) ∧ (e < 256 ∧ d < 128) then EReal.toReal (a5 (ix4 ⟨b, h.1.1⟩ ⟨k, h.1.2⟩ ⟨e, h.2.1⟩ ⟨d, h.2.2⟩)) else 0
  N b k d := if h : (b < 8 ∧ k < 8) ∧ d < 128 then EReal.toReal (a6 (ix3 ⟨b, h.1.1⟩ ⟨k, h.1.2⟩ ⟨d, h.2⟩)) else 0
  M b k := if h : b < 8 ∧ k < 8 then EReal.toReal (a7 (ix2 ⟨b, h.1⟩ ⟨k, h.2⟩)) else 0

/-- Under the precondition the argument arrays are those real numbers. -/
theorem of_finite (h : Cert.Pre_finite.fn (F := Ideal) a0 a1 a2 a3 a4 a5 a6 a7 = fun _ => 1#1) :
    (data a0 a1 a2 a3 a5 a6 a7).Of (fun i j => a0 (ix2 i j)) (fun i j => a1 (ix2 i j)) (fun j => a2 (ix2 0 j)) (fun j => a3 (ix2 0 j))
      (fun b h e d => a5 (ix4 b h e d)) (fun b h d => a6 (ix3 b h d)) (fun b h => a7 (ix2 b h)) := by
  have g := congrFun h ix0
  obtain ⟨g, g7⟩ := IntOp.andi_eq_one.1 g
  obtain ⟨g, g6⟩ := IntOp.andi_eq_one.1 g
  obtain ⟨g, g5⟩ := IntOp.andi_eq_one.1 g
  obtain ⟨g, g3⟩ := IntOp.andi_eq_one.1 g
  obtain ⟨g, g2⟩ := IntOp.andi_eq_one.1 g
  obtain ⟨g0, g1⟩ := IntOp.andi_eq_one.1 g
  exact {
    hP := fun i j => (show a0 (ix2 i j) = ((EReal.toReal (a0 (ix2 i j)) : ℝ) : EReal) from all_coe _ _ _ _ _ g0 (ix2 i j)).trans (congrArg Real.toEReal (by simp [data]))
    hG := fun i j => (all_coe _ _ _ _ _ g1 (ix2 i j)).trans (congrArg Real.toEReal (by simp [data]))
    hbi := fun j => (all_coe _ _ _ _ _ g2 (ix2 0 j)).trans (congrArg Real.toEReal (by simp [data]))
    hbf := fun j => (all_coe _ _ _ _ _ g3 (ix2 0 j)).trans (congrArg Real.toEReal (by simp [data]))
    hC := fun b k e d => (all_coe _ _ _ _ _ g5 (ix4 b k e d)).trans (congrArg Real.toEReal (by simp [data]))
    hN := fun b k d => (all_coe _ _ _ _ _ g6 (ix3 b k d)).trans (congrArg Real.toEReal (by simp [data]))
    hM := fun b k => (all_coe _ _ _ _ _ g7 (ix2 b k)).trans (congrArg Real.toEReal (by simp [data])) }

end Cert.Mlstm

end
-- ==== Proof.MlstmValue.lean ====
/- The recurrence kernel's results are the plain reference's. -/
module

public import proofs.«01_k».proof.Proof.MlstmFinite

@[expose] public section

set_option maxRecDepth 16384

noncomputable section

open Idealize.ShloMosaic Idealize.ShloMosaic.TcCoe Idealize.SL.Sem
open scoped BigOperators

namespace Cert.KernelIdeal.Value
open Cert.KernelIdeal Cert.KernelIdeal.Gen Cert.Mlstm
open Cert.ReferenceIdeal.Value (REF_C REF_n REF_m REF_rows ref_C ref_n ref_m ref_rows res_main_v1 res_main_v9 res_main_v11 res_main_v73 res_main_v75 res_main_v83 res_main_v88)

variable {m : (ℓ : Loc nD τ sig) → Buf (Elt Ideal) ℓ} {D : Data} {c : Dev nD} {V : Valuation Cert.ReferenceIdeal.τ Cert.ReferenceIdeal.sig (Elt Ideal)}
variable (hD : Args m D c) (hV : Cert.ReferenceIdeal.Value.Args V D)
include hD hV

/-- The matrix state. -/
theorem same_C : (dats m 0 c).arrAt 11 (cfgs 0).N = REF_C (res_main_v88 V) (V (Proc.devRef .tc Cert.ReferenceIdeal.main_arg5)) (res_main_v83 V) (res_main_v11 V) (res_main_v9 V) := by
  refine (final_C hD).trans (funext fun j => ?_)
  obtain ⟨b, h, e, d, rfl⟩ : ∃ b h e d, j = ix4 b h e d := ⟨_, _, _, _, ValueIdx.eq_ix4 j⟩
  exact (ref_C hV b h e d).symm

/-- The vector state. -/
theorem same_n : (dats m 0 c).arrAt 12 (cfgs 0).N = REF_n (res_main_v88 V) (V (Proc.devRef .tc Cert.ReferenceIdeal.main_arg6)) (res_main_v83 V) (res_main_v9 V) := by
  refine (final_n hD).trans (funext fun j => ?_)
  obtain ⟨b, h, d, rfl⟩ : ∃ b h d, j = ix3 b h d := ⟨_, _, _, ValueIdx.eq_ix3 j⟩
  exact (ref_n hV b h d).symm

/-- The maxima. -/
theorem same_m : (dats m 0 c).arrAt 13 (cfgs 0).N = REF_m (res_main_v75 V) := by
  refine (final_m hD).trans (funext fun j => ?_)
  obtain ⟨b, z, l, rfl⟩ : ∃ b z l, j = ix3 b z l := ⟨_, _, _, ValueIdx.eq_ix3 j⟩
  obtain rfl : z = 0 := Subsingleton.elim _ _
  exact (ref_m hV b l).symm

/-- The rows, where the norm's weight and the projection are the same arrays. -/
theorem same_rows (h0 : V (Proc.devRef .tc Cert.ReferenceIdeal.main_arg0) = m ((c : Thread nD τ).loc main_arg0)) (h4 : V (Proc.devRef .tc Cert.ReferenceIdeal.main_arg4) = m ((c : Thread nD τ).loc main_arg4)) :
    (dats m 0 c).arrAt 10 (cfgs 0).N = REF_rows (res_main_v73 V) (V (Proc.devRef .tc Cert.ReferenceIdeal.main_arg4)) (res_main_v1 V) := by
  refine (final_rows hD).trans (funext fun j => ?_)
  obtain ⟨R, col, rfl⟩ : ∃ R col, j = ix2 R col := ⟨_, _, ValueIdx.eq_ix2 j⟩
  refine Eq.trans ?_ (ref_rows hV R col).symm
  refine row_congr rfl rfl rfl rfl (congrFun h4 _).symm ?_
  exact (hD.hP ⟨R.val, by omega⟩ ⟨4096 + col.val, by omega⟩).trans (Cert.ReferenceIdeal.Value.v1_at hV R ⟨4096 + col.val, by omega⟩).symm

omit hD hV in
/-- The kernel ends with its four result arrays as its blocks left them, and its arguments unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14_0) = (dats m 0 c).arrAt 10 (cfgs 0).N
      ∧ r.2.mem ((c.tc : Thread nD τ).loc main_v14_1) = (dats m 0 c).arrAt 11 (cfgs 0).N
      ∧ r.2.mem ((c.tc : Thread nD τ).loc main_v14_2) = (dats m 0 c).arrAt 12 (cfgs 0).N
      ∧ r.2.mem ((c.tc : Thread nD τ).loc main_v14_3) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 10, (h.1 c).1 11, (h.1 c).1 12, (h.1 c).1 13, h.2 c⟩) (θ_run_and (run_main m ρ) (unchanged m ρ))

end Cert.KernelIdeal.Value

end
-- ==== Proof.lean ====
/- The certificate: every program ends with its semaphores at rest and its arguments unchanged, and each kernel leaves in its
   result array, over the extended reals, what its plain reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjReferenceIdeal.Run
public import proofs.«01_k».proof.Proof.Gen.InProjReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal
public import proofs.«01_k».proof.Proof.InProjValue
public import proofs.«01_k».proof.Proof.MergeValue
public import proofs.«01_k».proof.Proof.MlstmValue
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The recurrence kernel ends with its semaphores at rest and its arguments unchanged. -/
theorem quiescent_Kernel : Cert.quiescent_Kernel := fun m ρ _ => Cert.Kernel.Gen.frame m ρ

/-- So does its idealization. -/
theorem quiescent_KernelIdeal : Cert.quiescent_KernelIdeal := fun m ρ _ => Cert.KernelIdeal.Gen.frame m ρ

/-- In particular from finite arguments. -/
theorem quiescent_KernelIdeal_pre_finite : Cert.quiescent_KernelIdeal_pre_finite := fun m ρ _ => Cert.KernelIdeal.Gen.frame m ρ

/-- So does the recurrence's plain reference. -/
theorem quiescent_ReferenceIdeal : Cert.quiescent_ReferenceIdeal := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-- In particular from finite arguments. -/
theorem quiescent_ReferenceIdeal_pre_finite : Cert.quiescent_ReferenceIdeal_pre_finite := fun m ρ _ => quiescent_ReferenceIdeal m ρ trivial

/-- The input projection ends with its semaphores at rest and its arguments unchanged. -/
theorem quiescent_InProj : Cert.quiescent_InProj := fun m ρ _ => Cert.InProj.Gen.frame m ρ

/-- So does its idealization. -/
theorem quiescent_InProjIdeal : Cert.quiescent_InProjIdeal := fun m ρ _ => Cert.InProjIdeal.Gen.frame m ρ

/-- So does its reference. -/
theorem quiescent_InProjReferenceIdeal : Cert.quiescent_InProjReferenceIdeal := fun m ρ _ =>
  (θ_run Cert.InProjReferenceIdeal.defs _ _).mono (fun r h => ⟨fun c => (h c).2, Idealize.ShloMosaic.sem_eq_zero_of_no_sems (by decide) r.2⟩)
    (Cert.InProjReferenceIdeal.Value.run (F := Ideal) m ρ)

/-- The gated branch projections end with their semaphores at rest and their arguments unchanged. -/
theorem quiescent_Merge : Cert.quiescent_Merge := fun m ρ _ => Cert.Merge.Gen.frame m ρ

/-- So does their idealization. -/
theorem quiescent_MergeIdeal : Cert.quiescent_MergeIdeal := fun m ρ _ => Cert.MergeIdeal.Gen.frame m ρ

/-- So does their reference. -/
theorem quiescent_MergeReferenceIdeal : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- The recurrence kernel's named constants are those of its table. -/
theorem preserves_Kernel_KernelIdeal : Cert.preserves_Kernel_KernelIdeal :=
  ⟨IdealRules.named_const.statement _ _ _ _ _ rfl, IdealRules.named_const.statement _ _ _ _ _ rfl⟩

/-- The recurrence kernel's four results are the plain reference's, for finite arguments. -/
theorem algebraic_KernelIdeal_ReferenceIdeal_pre_finite : Cert.algebraic_KernelIdeal_ReferenceIdeal_pre_finite := by
  intro m g m' g' hpre hagree
  have hD := fun c => Cert.Mlstm.of_finite _ _ _ _ _ _ _ _ (hpre c)
  have hV : ∀ c, Cert.ReferenceIdeal.Value.Args (StableHlo.launchContents m' c) _ := fun c =>
    have ⟨h0, h1, h2, h3, h4, h5, h6, h7⟩ := hagree c
    ⟨fun i j => (congrFun h0 _).trans ((hD c).hP i j), fun i j => (congrFun h1 _).trans ((hD c).hG i j), fun j => (congrFun h2 _).trans ((hD c).hbi j), fun j => (congrFun h3 _).trans ((hD c).hbf j),
      fun b h e d => (congrFun h5 _).trans ((hD c).hC b h e d), fun b h d => (congrFun h6 _).trans ((hD c).hN b h d), fun b h => (congrFun h7 _).trans ((hD c).hM b h)⟩
  refine ⟨_, _, _, _, Cert.KernelIdeal.Value.run_values m g, (θ_run Cert.ReferenceIdeal.defs _ _).mono (fun r h c => ?_) (Cert.ReferenceIdeal.Value.run (F := Ideal) m' g')⟩
  exact ⟨(h c).1.trans (Cert.KernelIdeal.Value.same_rows (hD c) (hV c) (hagree c).1 (hagree c).2.2.2.2.1).symm, (h c).2.1.trans (Cert.KernelIdeal.Value.same_C (hD c) (hV c)).symm,
    (h c).2.2.1.trans (Cert.KernelIdeal.Value.same_n (hD c) (hV c)).symm, (h c).2.2.2.1.trans (Cert.KernelIdeal.Value.same_m (hD c) (hV c)).symm, (h c).2.2.2.2⟩

/-- Nothing was rewritten in the input projection. -/
theorem preserves_InProj_InProjIdeal : Cert.preserves_InProj_InProjIdeal := trivial

/-- The input projection's result is its reference's. -/
theorem algebraic_InProjIdeal_InProjReferenceIdeal : Cert.algebraic_InProjIdeal_InProjReferenceIdeal := by
  pair_intro
  · run_from Cert.InProjIdeal.Gen.run_main m g
  · run_from Cert.InProjReferenceIdeal.Value.run m' g'
    exact (Cert.InProjIdeal.Value.final m c).symm

/-- Nothing was rewritten in the branch projections. -/
theorem preserves_Merge_MergeIdeal : Cert.preserves_Merge_MergeIdeal := trivial

/-- The branch projections' result is their reference's. -/
theorem algebraic_MergeIdeal_MergeReferenceIdeal : Cert.algebraic_MergeIdeal_MergeReferenceIdeal := by
  pair_intro
  · run_from Cert.MergeIdeal.Gen.run_main m g
  · run_from Cert.MergeReferenceIdeal.Value.run m' g'
    exact (Cert.MergeIdeal.Value.final m c).symm

/-- The certificate's claim. -/
theorem claim : Cert.Claim :=
  ⟨Cert.Kernel.Gen.facts, Cert.KernelIdeal.Gen.facts, Cert.ReferenceIdeal.Gen.facts, Cert.InProj.Gen.facts, Cert.InProjIdeal.Gen.facts, Cert.InProjReferenceIdeal.Gen.facts,
   Cert.Merge.Gen.facts, Cert.MergeIdeal.Gen.facts, Cert.MergeReferenceIdeal.Gen.facts, Cert.Pre_finite.Gen.facts,
   quiescent_Kernel,
   quiescent_KernelIdeal,
   quiescent_KernelIdeal_pre_finite,
   quiescent_ReferenceIdeal,
   quiescent_ReferenceIdeal_pre_finite,
   quiescent_InProj,
   quiescent_InProjIdeal,
   quiescent_InProjReferenceIdeal,
   quiescent_Merge,
   quiescent_MergeIdeal,
   quiescent_MergeReferenceIdeal,
   preserves_Kernel_KernelIdeal,
   algebraic_KernelIdeal_ReferenceIdeal_pre_finite,
   preserves_InProj_InProjIdeal,
   algebraic_InProjIdeal_InProjReferenceIdeal,
   preserves_Merge_MergeIdeal,
   algebraic_MergeIdeal_MergeReferenceIdeal⟩

end Cert.Proof

end
